-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_rstd_in_range [hKernelIdeal : Cert.KernelIdeal.Facts] [hReferenceIdeal : Cert.ReferenceIdeal.Facts] [hOn_rstd_in_range : Cert.On_rstd_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8192, 4096]⟩ : Shape).Idx, (Cert.On_rstd_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v22) i = v0 c i)
          ∧ (∀ i : (⟨1, ![4096]⟩ : Shape).Idx, (Cert.On_rstd_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v23) i = v1 c i)
          ∧ (∀ i : (⟨1, ![4096]⟩ : Shape).Idx, (Cert.On_rstd_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.KernelIdeal.nD Cert.KernelIdeal.τ).loc Cert.KernelIdeal.main_v24) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8192, 4096]⟩ : Shape).Idx, (Cert.On_rstd_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v42) i = v0 c i)
          ∧ (∀ i : (⟨1, ![4096]⟩ : Shape).Idx, (Cert.On_rstd_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v44) i = v1 c i)
          ∧ (∀ i : (⟨1, ![4096]⟩ : Shape).Idx, (Cert.On_rstd_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.ReferenceIdeal.nD Cert.ReferenceIdeal.τ).loc Cert.ReferenceIdeal.main_v45) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_rstd_in_range : Cert.On_rstd_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rstd_in_range (hKernelIdeal := hKernelIdeal) (hReferenceIdeal := hReferenceIdeal) (hOn_rstd_in_range := hOn_rstd_in_range)
-- ==== On_rstd_in_range.lean ====
abbrev S4x8192x4096 : Shape := ⟨3, ![4, 8192, 4096]⟩
abbrev S4x8192x32 : Shape := ⟨3, ![4, 8192, 32]⟩
abbrev S4x8192 : Shape := ⟨2, ![4, 8192]⟩
abbrev S4096 : Shape := ⟨1, ![4096]⟩
abbrev S_ : Shape := ⟨0, ![]⟩
abbrev S4x8192x1 : Shape := ⟨3, ![4, 8192, 1]⟩

class Facts : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x4096_0_1_2 : S4x8192x1.BroadcastsInDim S4x8192x4096 (![0, 1, 2] : Fin 3 → Fin S4x8192x4096.rank)
  bcast_S_S4096 : S_.BroadcastsInDim S4096 (![] : Fin 0 → Fin S4096.rank)

variable [Facts]

def fn {F : FTy → Type} [FloatOps F] (main_arg0 : FVec F S4x8192x4096 .fp8e4m3) (main_arg1 : FVec F S4x8192x32 .f32) (main_arg2 : FVec F S4x8192x4096 .fp8e5m2) (main_arg3 : FVec F S4x8192 .f32) (main_arg4 : FVec F S4x8192 .f32) (main_arg5 : FVec F S4096 .f32) (main_arg6 : FVec F S4096 .f32) : IVec S4x8192x4096 1 × IVec S4096 1 × IVec S4096 1 :=
  let main_cst : FVec F S_ .f32 := constant S_ .f32 0x00000000#32
  let main_v0 : FVec F S4x8192 .f32 := broadcastInDim S4x8192 ![] bcast_S_S4x8192 main_cst
  let main_v1 : IVec S4x8192 1 := cmpf .oge main_arg4 main_v0
  let main_cst_0 : FVec F S_ .f32 := constant S_ .f32 0x7F800000#32
  let main_v2 : FVec F S4x8192 .f32 := broadcastInDim S4x8192 ![] bcast_S_S4x8192 main_cst_0
  let main_v3 : IVec S4x8192 1 := cmpf .olt main_arg4 main_v2
  let main_v4 : IVec S4x8192 1 := andi main_v1 main_v3
  let main_v5 : IVec S4x8192x1 1 := broadcastInDim S4x8192x1 ![0, 1] bcast_S4x8192_S4x8192x1_0_1 main_v4
  let main_v6 : IVec S4x8192x4096 1 := broadcastInDim S4x8192x4096 ![0, 1, 2] bcast_S4x8192x1_S4x8192x4096_0_1_2 main_v5
  let main_c : IVec S_ 1 := constantI S_ 1 1#1
  let main_v7 : IVec S4096 1 := broadcastInDim S4096 ![] bcast_S_S4096 main_c
  let main_c_1 : IVec S_ 1 := constantI S_ 1 1#1
  let main_v8 : IVec S4096 1 := broadcastInDim S4096 ![] bcast_S_S4096 main_c_1
  (main_v6, main_v7, main_v8)
-- ==== Kernel.lean ====
abbrev S4x8192x4096 : Shape := ⟨3, ![4, 8192, 4096]⟩
abbrev S4x8192x32 : Shape := ⟨3, ![4, 8192, 32]⟩
abbrev S4x8192 : Shape := ⟨2, ![4, 8192]⟩
abbrev S4096 : Shape := ⟨1, ![4096]⟩
abbrev S_ : Shape := ⟨0, ![]⟩
abbrev S1x4096 : Shape := ⟨2, ![1, 4096]⟩
abbrev S3x4096 : Shape := ⟨2, ![3, 4096]⟩
abbrev S32768 : Shape := ⟨1, ![32768]⟩
abbrev S32768x1 : Shape := ⟨2, ![32768, 1]⟩
abbrev S32768x2 : Shape := ⟨2, ![32768, 2]⟩
abbrev S32768x4096 : Shape := ⟨2, ![32768, 4096]⟩
abbrev S32768x32 : Shape := ⟨2, ![32768, 32]⟩
abbrev S8x4096 : Shape := ⟨2, ![8, 4096]⟩
abbrev S256x4096 : Shape := ⟨2, ![256, 4096]⟩
abbrev S256x32 : Shape := ⟨2, ![256, 32]⟩
abbrev S256x2 : Shape := ⟨2, ![256, 2]⟩
abbrev S32x1 : Shape := ⟨2, ![32, 1]⟩
abbrev S32x32 : Shape := ⟨2, ![32, 32]⟩
abbrev S32x128 : Shape := ⟨2, ![32, 128]⟩
abbrev S1x128 : Shape := ⟨2, ![1, 128]⟩
abbrev S8x128 : Shape := ⟨2, ![8, 128]⟩
abbrev S4x8x128 : Shape := ⟨3, ![4, 8, 128]⟩
abbrev S32 : Shape := ⟨1, ![32]⟩

abbrev nBuf : Space → Nat
  | .hbm => 40
  | .vmem => 13
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192x32, .f32⟩
  | .hbm, ⟨2, _⟩ => ⟨S4x8192x4096, .fp8e5m2⟩
  | .hbm, ⟨3, _⟩ => ⟨S4x8192, .f32⟩
  | .hbm, ⟨4, _⟩ => ⟨S4x8192, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .i1⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S3x4096, .f32⟩
  | .hbm, ⟨24, _⟩ => ⟨S32768, .f32⟩
  | .hbm, ⟨25, _⟩ => ⟨S32768, .f32⟩
  | .hbm, ⟨26, _⟩ => ⟨S32768x1, .f32⟩
  | .hbm, ⟨27, _⟩ => ⟨S32768x1, .f32⟩
  | .hbm, ⟨28, _⟩ => ⟨S32768x2, .f32⟩
  | .hbm, ⟨29, _⟩ => ⟨S32768x4096, .fp8e4m3⟩
  | .hbm, ⟨30, _⟩ => ⟨S32768x32, .f32⟩
  | .hbm, ⟨31, _⟩ => ⟨S32768x4096, .fp8e5m2⟩
  | .hbm, ⟨32, _⟩ => ⟨S32768x4096, .bf16⟩
  | .hbm, ⟨33, _⟩ => ⟨S8x4096, .f32⟩
  | .hbm, ⟨34, _⟩ => ⟨S8x4096, .f32⟩
  | .hbm, ⟨35, _⟩ => ⟨S4x8192x4096, .bf16⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S256x32, .f32⟩
  | .local _ .vmem, ⟨3, _⟩ => ⟨S256x32, .f32⟩
  | .local _ .vmem, ⟨4, _⟩ => ⟨S256x4096, .fp8e5m2⟩
  | .local _ .vmem, ⟨5, _⟩ => ⟨S256x4096, .fp8e5m2⟩
  | .local _ .vmem, ⟨6, _⟩ => ⟨S256x2, .f32⟩
  | .local _ .vmem, ⟨7, _⟩ => ⟨S256x2, .f32⟩
  | .local _ .vmem, ⟨8, _⟩ => ⟨S3x4096, .f32⟩
  | .local _ .vmem, ⟨9, _⟩ => ⟨S256x4096, .bf16⟩
  | .local _ .vmem, ⟨10, _⟩ => ⟨S256x4096, .bf16⟩
  | .local _ .vmem, ⟨11, _⟩ => ⟨S8x4096, .f32⟩
  | .local _ .vmem, ⟨12, _⟩ => ⟨S8x4096, .f32⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  v4
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v6 : Index := Scalar.indexCast v5
  let c0 : Index := 0#32
  ![v6.toNat, 0]
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v9 : Index := Scalar.indexCast v5
  let c1 : Index := 1#32
  ![v9.toNat, 1]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v12 : Index := Scalar.indexCast v5
  let c0_3 : Index := 0#32
  ![v12.toNat, 0]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v23 : Index := Scalar.indexCast v5
  let c0_10 : Index := 0#32
  ![v23.toNat, 0]
def k0_off5 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v64 : Index := Scalar.indexCast v5
  let c128_27 : Index := 128#32
  ![v64.toNat, 128]
def k0_off6 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v105 : Index := Scalar.indexCast v5
  let c256_44 : Index := 256#32
  ![v105.toNat, 256]
def k0_off7 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v146 : Index := Scalar.indexCast v5
  let c384_61 : Index := 384#32
  ![v146.toNat, 384]
def k0_off8 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v187 : Index := Scalar.indexCast v5
  let c512_78 : Index := 512#32
  ![v187.toNat, 512]
def k0_off9 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v228 : Index := Scalar.indexCast v5
  let c640_95 : Index := 640#32
  ![v228.toNat, 640]
def k0_off10 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v269 : Index := Scalar.indexCast v5
  let c768_112 : Index := 768#32
  ![v269.toNat, 768]
def k0_off11 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v310 : Index := Scalar.indexCast v5
  let c896_129 : Index := 896#32
  ![v310.toNat, 896]
def k0_off12 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v351 : Index := Scalar.indexCast v5
  let c1024_146 : Index := 1024#32
  ![v351.toNat, 1024]
def k0_off13 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v392 : Index := Scalar.indexCast v5
  let c1152_163 : Index := 1152#32
  ![v392.toNat, 1152]
def k0_off14 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v433 : Index := Scalar.indexCast v5
  let c1280_180 : Index := 1280#32
  ![v433.toNat, 1280]
def k0_off15 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v474 : Index := Scalar.indexCast v5
  let c1408_197 : Index := 1408#32
  ![v474.toNat, 1408]
def k0_off16 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v515 : Index := Scalar.indexCast v5
  let c1536_214 : Index := 1536#32
  ![v515.toNat, 1536]
def k0_off17 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v556 : Index := Scalar.indexCast v5
  let c1664_231 : Index := 1664#32
  ![v556.toNat, 1664]
def k0_off18 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v597 : Index := Scalar.indexCast v5
  let c1792_248 : Index := 1792#32
  ![v597.toNat, 1792]
def k0_off19 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v638 : Index := Scalar.indexCast v5
  let c1920_265 : Index := 1920#32
  ![v638.toNat, 1920]
def k0_off20 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v679 : Index := Scalar.indexCast v5
  let c2048_282 : Index := 2048#32
  ![v679.toNat, 2048]
def k0_off21 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v720 : Index := Scalar.indexCast v5
  let c2176_299 : Index := 2176#32
  ![v720.toNat, 2176]
def k0_off22 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v761 : Index := Scalar.indexCast v5
  let c2304_316 : Index := 2304#32
  ![v761.toNat, 2304]
def k0_off23 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v802 : Index := Scalar.indexCast v5
  let c2432_333 : Index := 2432#32
  ![v802.toNat, 2432]
def k0_off24 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v843 : Index := Scalar.indexCast v5
  let c2560_350 : Index := 2560#32
  ![v843.toNat, 2560]
def k0_off25 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v884 : Index := Scalar.indexCast v5
  let c2688_367 : Index := 2688#32
  ![v884.toNat, 2688]
def k0_off26 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v925 : Index := Scalar.indexCast v5
  let c2816_384 : Index := 2816#32
  ![v925.toNat, 2816]
def k0_off27 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v966 : Index := Scalar.indexCast v5
  let c2944_401 : Index := 2944#32
  ![v966.toNat, 2944]
def k0_off28 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1007 : Index := Scalar.indexCast v5
  let c3072_418 : Index := 3072#32
  ![v1007.toNat, 3072]
def k0_off29 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1048 : Index := Scalar.indexCast v5
  let c3200_435 : Index := 3200#32
  ![v1048.toNat, 3200]
def k0_off30 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1089 : Index := Scalar.indexCast v5
  let c3328_452 : Index := 3328#32
  ![v1089.toNat, 3328]
def k0_off31 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1130 : Index := Scalar.indexCast v5
  let c3456_469 : Index := 3456#32
  ![v1130.toNat, 3456]
def k0_off32 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1171 : Index := Scalar.indexCast v5
  let c3584_486 : Index := 3584#32
  ![v1171.toNat, 3584]
def k0_off33 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1212 : Index := Scalar.indexCast v5
  let c3712_503 : Index := 3712#32
  ![v1212.toNat, 3712]
def k0_off34 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1253 : Index := Scalar.indexCast v5
  let c3840_520 : Index := 3840#32
  ![v1253.toNat, 3840]
def k0_off35 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c32_i32 : BitVec 32 := 32#32
  let v4 : BitVec 32 := Scalar.muli arg9 c32_i32
  let v5 : BitVec 32 := v4
  let v1294 : Index := Scalar.indexCast v5
  let c3968_537 : Index := 3968#32
  ![v1294.toNat, 3968]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x8192x4096 : Shape := ⟨3, ![4, 8192, 4096]⟩
abbrev S4x8192x32 : Shape := ⟨3, ![4, 8192, 32]⟩
abbrev S4x8192 : Shape := ⟨2, ![4, 8192]⟩
abbrev S4096 : Shape := ⟨1, ![4096]⟩
abbrev S4x8192x32x128 : Shape := ⟨4, ![4, 8192, 32, 128]⟩
abbrev S4x8192x32x1 : Shape := ⟨4, ![4, 8192, 32, 1]⟩
abbrev S4x8192x1 : Shape := ⟨3, ![4, 8192, 1]⟩
abbrev S_ : Shape := ⟨0, ![]⟩
abbrev S1x1x4096 : Shape := ⟨3, ![1, 1, 4096]⟩

abbrev nBuf : Space → Nat
  | .hbm => 63
  | .vmem => 4
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192x32, .f32⟩
  | .hbm, ⟨2, _⟩ => ⟨S4x8192x4096, .fp8e5m2⟩
  | .hbm, ⟨3, _⟩ => ⟨S4x8192, .f32⟩
  | .hbm, ⟨4, _⟩ => ⟨S4x8192, .f32⟩
  | .hbm, ⟨5, _⟩ => ⟨S4096, .f32⟩
  | .hbm, ⟨6, _⟩ => ⟨S4096, .f32⟩
  | .hbm, ⟨7, _⟩ => ⟨S4x8192x4096, .f32⟩
  | .hbm, ⟨8, _⟩ => ⟨S4x8192x4096, .f32⟩
  | .hbm, ⟨9, _⟩ => ⟨S4x8192x32x128, .f32⟩
  | .hbm, ⟨10, _⟩ => ⟨S4x8192x32x1, .f32⟩
  | .hbm, ⟨11, _⟩ => ⟨S4x8192x32x128, .f32⟩
  | .hbm, ⟨12, _⟩ => ⟨S4x8192x32x128, .f32⟩
  | .hbm, ⟨13, _⟩ => ⟨S4x8192x4096, .f32⟩
  | .hbm, ⟨14, _⟩ => ⟨S4x8192x1, .f32⟩
  | .hbm, ⟨15, _⟩ => ⟨S4x8192x4096, .f32⟩
  | .hbm, ⟨16, _⟩ => ⟨S4x8192x4096, .f32⟩
  | .hbm, ⟨17, _⟩ => ⟨S_, .f32⟩
  | .hbm, ⟨18, _⟩ => ⟨S4096, .f32⟩
  | .hbm, ⟨19, _⟩ => ⟨S4096, .i1⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x1x4096, .f32⟩
  | .hbm, ⟨28, _⟩ => ⟨S4x8192x4096, .f32⟩
  | .hbm, ⟨29, _⟩ => ⟨S4x8192x4096, .f32⟩
  | .hbm, ⟨30, _⟩ => ⟨S1x1x4096, .f32⟩
  | .hbm, ⟨31, _⟩ => ⟨S4x8192x4096, .f32⟩
  | .hbm, ⟨32, _⟩ => ⟨S4x8192x4096, .f32⟩
  | .hbm, ⟨33, _⟩ => ⟨S1x1x4096, .f32⟩
  | .hbm, ⟨34, _⟩ => ⟨S4x8192x4096, .f32⟩
  | .hbm, ⟨35, _⟩ => ⟨S4x8192x4096, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x4096, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x4096, .f32⟩
  | .hbm, ⟨51, _⟩ => ⟨S4x8192x4096, .f32⟩
  | .hbm, ⟨52, _⟩ => ⟨S4x8192x4096, .f32⟩
  | .hbm, ⟨53, _⟩ => ⟨S4x8192x4096, .f32⟩
  | .hbm, ⟨54, _⟩ => ⟨S4x8192x4096, .f32⟩
  | .hbm, ⟨55, _⟩ => ⟨S4x8192x4096, .f32⟩
  | .hbm, ⟨56, _⟩ => ⟨S4x8192x4096, .f32⟩
  | .hbm, ⟨57, _⟩ => ⟨S4x8192x4096, .bf16⟩
  | .hbm, ⟨58, _⟩ => ⟨S4x8192x4096, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .local _ .vmem, ⟨0, _⟩ => ⟨S4x8192x4096, .fp8e4m3⟩
  | .local _ .vmem, ⟨1, _⟩ => ⟨S4x8192x4096, .fp8e5m2⟩
  | .local _ .vmem, ⟨2, _⟩ => ⟨S4x8192x4096, .f32⟩
  | .local _ .vmem, ⟨3, _⟩ => ⟨S4x8192x4096, .f32⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Block.lean ====
/- What one lane block of one group of 32 rows computes in the kernel's body: the printed payloads are cut
   differently from block to block, but each is one of the few functions below of what the block loads.
   Everything is stated at any float instance. -/
module

public import proofs.«01_k».proof.Proof.Gen.KernelIdeal.Loops

@[expose] public section

set_option maxRecDepth 16384

noncomputable section

namespace Cert.KernelIdeal.Value

open Idealize.ShloMosaic Idealize.ShloMosaic.TcCoe
open Cert.KernelIdeal Cert.KernelIdeal.Gen

variable {F : FTy → Type} [FloatOps F]

/-- Column `b` of the 32 × 32 table of scales is a slice of it. -/
theorem slices_col : ∀ b : Fin 32, S32x32.Slices ![0, b.val] S32x1 := by decide +kernel

/-- What one group of 32 rows loads: per row the scale of `dy`, `rstd` and the 32 scales of `y`; per lane block
    `gamma`, the inverse of the clamped `gamma`, `beta`, and the codes of `y` and `dy`. -/
structure Loads (F : FTy → Type) where
  dys : Vec F S32x1 .f32
  rstd : Vec F S32x1 .f32
  ys : Vec F S32x32 .f32
  gamma : Fin 32 → Vec F S1x128 .f32
  igc : Fin 32 → Vec F S1x128 .f32
  beta : Fin 32 → Vec F S1x128 .f32
  y : Fin 32 → Vec F S32x128 .fp8e4m3
  dy : Fin 32 → Vec F S32x128 .fp8e5m2

variable (l : Loads F)

/-- The normalized input of block `b`: codes times the block's scale, less `beta`, times the inverse of `gamma`. -/
def xhatP (b : Fin 32) : FVec F S32x128 .f32 :=
  mulf
    (subf
      (mulf (extf .f32 (shapeCast S32x128 (l.y b) shapeCasts_S32x128_S32x128 : FVec F S32x128 .fp8e4m3) bitsLt_fp8e4m3_f32)
        (broadcastTo S32x128
          (extractStridedSlice S32x1 ![0, b.val] (shapeCast S32x32 l.ys shapeCasts_S32x32_S32x32 : FVec F S32x32 .f32) (slices_col b) : FVec F S32x1 .f32)
          broadcasts_S32x1_S32x128))
      (broadcastTo S32x128 (shapeCast S1x128 (l.beta b) shapeCasts_S1x128_S1x128 : FVec F S1x128 .f32) broadcasts_S1x128_S32x128))
    (broadcastTo S32x128 (shapeCast S1x128 (l.igc b) shapeCasts_S1x128_S1x128 : FVec F S1x128 .f32) broadcasts_S1x128_S32x128)

/-- The gradient of block `b`: codes times the row's scale. -/
def dyP (b : Fin 32) : FVec F S32x128 .f32 :=
  mulf (extf .f32 (shapeCast S32x128 (l.dy b) shapeCasts_S32x128_S32x128 : FVec F S32x128 .fp8e5m2) bitsLt_fp8e5m2_f32)
    (broadcastTo S32x128 (shapeCast S32x1 l.dys shapeCasts_S32x1_S32x1 : FVec F S32x1 .f32) broadcasts_S32x1_S32x128)

/-- The gradient of block `b` times `gamma`. -/
def gP (b : Fin 32) : FVec F S32x128 .f32 :=
  mulf (dyP l b) (broadcastTo S32x128 (shapeCast S1x128 (l.gamma b) shapeCasts_S1x128_S1x128 : FVec F S1x128 .f32) broadcasts_S1x128_S32x128)

/-- A running sum over the lane blocks: zero, then each block's tile added in turn. -/
def sumTo (f : Fin 32 → FVec F S32x128 .f32) : (n : ℕ) → n ≤ 32 → FVec F S32x128 .f32
  | 0, _ => broadcast S32x128 (Scalar.ofBits .f32 0x00000000#32 : F .f32)
  | n + 1, h => addf (sumTo f n (Nat.le_of_succ_le h)) (f ⟨n, h⟩)

/-- A row mean times `rstd`, as the kernel computes it: the lanes of the running sum added, times `rstd`, times 1/4096. -/
def meanP (s : FVec F S32x128 .f32) : FVec F S32x1 .f32 :=
  mulf (mulf (shapeCast S32x1 l.rstd shapeCasts_S32x1_S32x1 : FVec F S32x1 .f32)
      (shapeCast S32x1 (multiReduction .add [1] S32 s 0x00000000#32 reduces_S32x128_S32 (.inl rfl) rfl : FVec F S32 .f32) shapeCasts_S32_S32x1))
    (broadcast S32x1 (Scalar.ofBits .f32 0x39800000#32 : F .f32))

/-- `rstd` times the mean of `g` over the row. -/
def cgP : FVec F S32x1 .f32 := meanP l (sumTo (gP l) 32 (Nat.le_refl _))

/-- `rstd` times the mean of `g · x_hat` over the row. -/
def cgxP : FVec F S32x1 .f32 := meanP l (sumTo (fun b => mulf (gP l b) (xhatP l b)) 32 (Nat.le_refl _))

/-- The tile of `dx` block `b` stores. -/
def dxP (b : Fin 32) : FVec F S32x128 .bf16 :=
  truncf .bf16
    (subf
      (subf (mulf (broadcastTo S32x128 (shapeCast S32x1 l.rstd shapeCasts_S32x1_S32x1 : FVec F S32x1 .f32) broadcasts_S32x1_S32x128) (gP l b))
        (broadcastTo S32x128 (cgP l) broadcasts_S32x1_S32x128))
      (mulf (xhatP l b) (broadcastTo S32x128 (cgxP l) broadcasts_S32x1_S32x128)))
    bitsLt_bf16_f32

/-- A tile of an accumulator with the 32 rows of `v` added, eight rows at a time. -/
def accP (old : Vec F S8x128 .f32) (v : FVec F S32x128 .f32) : FVec F S8x128 .f32 :=
  addf (shapeCast S8x128 old shapeCasts_S8x128_S8x128 : FVec F S8x128 .f32)
    (multiReduction .add [0] S8x128 (shapeCast S4x8x128 v shapeCasts_S32x128_S4x8x128 : FVec F S4x8x128 .f32) 0x00000000#32 reduces_S4x8x128_S8x128 (.inl rfl) rfl)

/-- Block `b`'s tile of the accumulator of `dgamma`, after this group. -/
def dgP (b : Fin 32) (old : Vec F S8x128 .f32) : FVec F S8x128 .f32 := accP old (mulf (dyP l b) (xhatP l b))

/-- Block `b`'s tile of the accumulator of `dbeta`, after this group. -/
def dbP (b : Fin 32) (old : Vec F S8x128 .f32) : FVec F S8x128 .f32 := accP old (dyP l b)

end Cert.KernelIdeal.Value

end
-- ==== Proof.Trip.lean ====
/- One trip of the kernel's loop: the pieces it stores are one function of the lane block, for all 32 blocks. -/
module

public import Idealize.ShloMosaic.Lib.WritesUnit
public import proofs.«01_k».proof.Proof.Block

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

variable {F : FTy → Type} [FloatOps F]

/-- Where group `k` and lane block `b` start in an array of 256 rows, as the kernel computes it. -/
def offB (k : Fin k0_t1_loop.trips) (b : Fin 32) : Fin 2 → ℕ := ![k0_off4 k 0, 128 * b.val]

/-- Where turn `k` stores block `b` -/
theorem offB_eq (k : Fin k0_t1_loop.trips) (b : Fin 32) : offB k b = ![32 * k.val, 128 * b.val] := by
  unfold offB; rw [k0_off4_eq k]; rfl

/-- and that it lies inside. -/
theorem offB_inb : ∀ (k : Fin k0_t1_loop.trips) (b : Fin 32), ∀ a, offB k b a + S32x128.size a ≤ S256x4096.size a := by
  decide +kernel

/-- Where lane block `b` starts in an array of 8 rows. -/
def tileOff (b : Fin 32) : Fin 2 → ℕ := ![0, 128 * b.val]

/-- Lane block `b` lies in an array of 8 rows, -/
theorem tile_inb : ∀ (b : Fin 32), ∀ a, tileOff b a + S8x128.size a ≤ S8x4096.size a := by decide +kernel

/-- and in row `r` of one of three rows. -/
theorem col_inb : ∀ (r : Fin 3) (b : Fin 32), ∀ a, ![r.val, 128 * b.val] a + S1x128.size a ≤ S3x4096.size a := by decide +kernel

/-- Group `k`'s tile of lane block `b`, -/
abbrev rectB (k : Fin k0_t1_loop.trips) (b : Fin 32) : Rect S256x4096 := Rect.unit (offB k b) S32x128.size (offB_inb k b)

/-- an accumulator's tile, -/
abbrev tileB (b : Fin 32) : Rect S8x4096 := Rect.unit (tileOff b) S8x128.size (tile_inb b)

/-- and row `r`'s of the table of columns. -/
abbrev colB (r : Fin 3) (b : Fin 32) : Rect S3x4096 := Rect.unit ![r.val, 128 * b.val] S1x128.size (col_inb r b)

variable (𝒱 : Variants) (c : Dev nD) (bd : Option 𝒱.V) (i : grid0.Coords) (arg1 : Memref sig .tc .vmem S256x4096 .fp8e4m3) (harg1 : arg1.IsWhole) (arg2 : Memref sig .tc .vmem S256x32 .f32) (harg2 : arg2.IsWhole) (arg3 : Memref sig .tc .vmem S256x4096 .fp8e5m2) (harg3 : arg3.IsWhole) (arg4 : Memref sig .tc .vmem S256x2 .f32) (harg4 : arg4.IsWhole) (arg5 : Memref sig .tc .vmem S3x4096 .f32) (harg5 : arg5.IsWhole) (arg6 : Memref sig .tc .vmem S256x4096 .bf16) (harg6 : arg6.IsWhole) (arg7 : Memref sig .tc .vmem S8x4096 .f32) (harg7 : arg7.IsWhole) (arg8 : Memref sig .tc .vmem S8x4096 .f32) (harg8 : arg8.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)

/-- What trip `k` loads of the contents it finds. -/
def loads : Loads F where
  dys := View.readAt (Elt F) arg4.view (Rect.unit (s := S256x2) (k0_off1 k) S32x1.size (k0_off1_inb k)).toLoadRect X_arg4
  rstd := View.readAt (Elt F) arg4.view (Rect.unit (s := S256x2) (k0_off2 k) S32x1.size (k0_off2_inb k)).toLoadRect X_arg4
  ys := View.readAt (Elt F) arg2.view (Rect.unit (s := S256x32) (k0_off3 k) S32x32.size (k0_off3_inb k)).toLoadRect X_arg2
  gamma b := View.readAt (Elt F) arg5.view (colB 0 b).toLoadRect X_arg5
  igc b := View.readAt (Elt F) arg5.view (colB 1 b).toLoadRect X_arg5
  beta b := View.readAt (Elt F) arg5.view (colB 2 b).toLoadRect X_arg5
  y b := View.readAt (Elt F) arg1.view (rectB k b).toLoadRect X_arg1
  dy b := View.readAt (Elt F) arg3.view (rectB k b).toLoadRect X_arg3

variable (f6 : BufTy.Contents (Elt F) arg6.view.ty) (f7 : BufTy.Contents (Elt F) arg7.view.ty) (f8 : BufTy.Contents (Elt F) arg8.view.ty)

/-- The trip's stores into the block of `dx`, -/
theorem trip_dx : (trip_k0_t1 (F := F) 𝒱 c bd i arg1 harg1 arg2 harg2 arg3 harg3 arg4 harg4 arg5 harg5 arg6 harg6 arg7 harg7 arg8 harg8 X_arg1 X_arg2 X_arg3 X_arg4 X_arg5 k).1 f6 f7 f8
    = View.tilePieces (s := S256x4096) S32x128.size (offB k) (offB_inb k) (dxP (loads arg1 arg2 arg3 arg4 arg5 X_arg1 X_arg2 X_arg3 X_arg4 X_arg5 k)) 32 (Nat.le_refl _) := by
  sl_kernel_rfl

/-- into the accumulator of `dgamma`, -/
theorem trip_dgamma : (trip_k0_t1 (F := F) 𝒱 c bd i arg1 harg1 arg2 harg2 arg3 harg3 arg4 harg4 arg5 harg5 arg6 harg6 arg7 harg7 arg8 harg8 X_arg1 X_arg2 X_arg3 X_arg4 X_arg5 k).2.1 f6 f7 f8
    = View.tilePieces (s := S8x4096) S8x128.size tileOff tile_inb
        (fun b => dgP (loads arg1 arg2 arg3 arg4 arg5 X_arg1 X_arg2 X_arg3 X_arg4 X_arg5 k) b (View.readAt (Elt F) arg7.view (tileB b).toLoadRect f7)) 32 (Nat.le_refl _) := by
  sl_kernel_rfl

/-- and into that of `dbeta`. -/
theorem trip_dbeta : (trip_k0_t1 (F := F) 𝒱 c bd i arg1 harg1 arg2 harg2 arg3 harg3 arg4 harg4 arg5 harg5 arg6 harg6 arg7 harg7 arg8 harg8 X_arg1 X_arg2 X_arg3 X_arg4 X_arg5 k).2.2.1 f6 f7 f8
    = View.tilePieces (s := S8x4096) S8x128.size tileOff tile_inb
        (fun b => dbP (loads arg1 arg2 arg3 arg4 arg5 X_arg1 X_arg2 X_arg3 X_arg4 X_arg5 k) b (View.readAt (Elt F) arg8.view (tileB b).toLoadRect f8)) 32 (Nat.le_refl _) := by
  sl_kernel_rfl

end Cert.KernelIdeal.Value

end
-- ==== Proof.Loop.lean ====
/- What the loop leaves: trip by trip, the block of `dx` fills with its tiles and the two accumulators take the
   groups' rows one after the other. At any float instance. -/
module

public import proofs.«01_k».proof.Proof.Trip
public import Idealize.ShloMosaic.Lib.WritesUnit
public import Idealize.ShloMosaic.Lib.Pointwise.Index
public import Idealize.ShloMosaic.Lib.Pipeline.FrameBody

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

variable {F : FTy → Type} [FloatOps F]

/-- The loop has eight turns. -/
theorem trips_eq : k0_t1_loop.trips = 8 := by decide +kernel

/-- The lane block of a lane, and the lane within it. -/
def blk (n : ℕ) (h : n < 4096) : Fin 32 := ⟨n / 128, by omega⟩
/-- Lane of a block, -/
def lane (n : ℕ) : Fin 128 := ⟨n % 128, by omega⟩
/-- The group of a row of a block of 256, and the row within it. -/
def grp (n : ℕ) (h : n < 256) : Fin k0_t1_loop.trips := ⟨n / 32, by rw [trips_eq]; omega⟩
/-- and row of a tile. -/
def row (n : ℕ) : Fin 32 := ⟨n % 32, by omega⟩

/-- An accumulator after one group whose rows in block `b` are `v b`. -/
def stepAcc (v : Fin 32 → FVec F S32x128 .f32) (a : Vec F S8x4096 .f32) : Vec F S8x4096 .f32 := fun y =>
  accP (View.ld (Val := Elt F) a (tileB (blk (y 1).val (y 1).isLt))) (v (blk (y 1).val (y 1).isLt)) (ix2 (n0 := 8) (n1 := 128) (y 0) (lane (y 1).val))

/-- An accumulator after the first `n` groups. -/
def accV (v : Fin k0_t1_loop.trips → Fin 32 → FVec F S32x128 .f32) (a : Vec F S8x4096 .f32) :
    (n : ℕ) → n ≤ k0_t1_loop.trips → Vec F S8x4096 .f32
  | 0, _ => a
  | n + 1, h => stepAcc (v ⟨n, h⟩) (accV v a n (Nat.le_of_succ_le h))

/-- The block of `dx` the loop leaves. -/
def dxV (L : Fin k0_t1_loop.trips → Loads F) : Vec F S256x4096 .bf16 := fun y =>
  dxP (L (grp (y 0).val (y 0).isLt)) (blk (y 1).val (y 1).isLt) (ix2 (n0 := 32) (n1 := 128) (row (y 0).val) (lane (y 1).val))

/-- The accumulators of `dgamma` and `dbeta` the loop leaves, over what it finds. -/
def dgV (L : Fin k0_t1_loop.trips → Loads F) (a : Vec F S8x4096 .f32) : Vec F S8x4096 .f32 :=
  accV (fun k b => mulf (dyP (L k) b) (xhatP (L k) b)) a k0_t1_loop.trips (Nat.le_refl _)
/-- The running sum of the gradient after the loop. -/
def dbV (L : Fin k0_t1_loop.trips → Loads F) (a : Vec F S8x4096 .f32) : Vec F S8x4096 .f32 :=
  accV (fun k b => dyP (L k) b) a k0_t1_loop.trips (Nat.le_refl _)

/-- Reading through one trip's stores into an accumulator. -/
theorem read_acc {sig' : RefSig} {κ : Kind} {sp : Space} (w : View sig' κ sp S8x4096 .f32) (f : w.ty.Contents (Elt F))
    (v : Fin 32 → FVec F S32x128 .f32) :
    w.read (Elt F) (w.writes (Elt F) f (View.tilePieces (s := S8x4096) S8x128.size tileOff tile_inb
        (fun b => accP (w.readAt (Elt F) (tileB b).toLoadRect f) (v b)) 32 (Nat.le_refl _)))
      = stepAcc v (w.read (Elt F) f) := by
  funext y
  have hy : (y 1).val < 4096 := (y 1).isLt
  refine View.read_tilePieces w f S8x128.size tileOff tile_inb _ 32 (Nat.le_refl _) y (blk (y 1).val hy) (blk (y 1).val hy).isLt
    (ix2 (n0 := 8) (n1 := 128) (y 0) (lane (y 1).val)) ?_ 1 ?_
  · intro a
    match a with
    | ⟨0, _⟩ => exact (Nat.zero_add _).symm
    | ⟨1, _⟩ => show (y 1).val = 128 * ((y 1).val / 128) + (y 1).val % 128; omega
  · intro b hb
    have hb' : b.val ≠ (y 1).val / 128 := fun h => hb (Fin.ext h)
    show (y 1).val < 128 * b.val ∨ 128 * b.val + 128 ≤ (y 1).val
    omega

variable (𝒱 : Variants) (c : Dev nD) (bd : Option 𝒱.V) (i : grid0.Coords) (arg1 : Memref sig .tc .vmem S256x4096 .fp8e4m3) (harg1 : arg1.IsWhole) (arg2 : Memref sig .tc .vmem S256x32 .f32) (harg2 : arg2.IsWhole) (arg3 : Memref sig .tc .vmem S256x4096 .fp8e5m2) (harg3 : arg3.IsWhole) (arg4 : Memref sig .tc .vmem S256x2 .f32) (harg4 : arg4.IsWhole) (arg5 : Memref sig .tc .vmem S3x4096 .f32) (harg5 : arg5.IsWhole) (arg6 : Memref sig .tc .vmem S256x4096 .bf16) (harg6 : arg6.IsWhole) (arg7 : Memref sig .tc .vmem S8x4096 .f32) (harg7 : arg7.IsWhole) (arg8 : Memref sig .tc .vmem S8x4096 .f32) (harg8 : arg8.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty)
variable (G6 : BufTy.Contents (Elt F) arg6.view.ty) (G7 : BufTy.Contents (Elt F) arg7.view.ty) (G8 : BufTy.Contents (Elt F) arg8.view.ty)

/-- The accumulator of `dgamma` before trip `n`, -/
theorem read_dgamma (n : ℕ) (h : n ≤ k0_t1_loop.trips) :
    arg7.view.read (Elt F) (arg7.view.writes (Elt F) G7 (pb_k0_t1 (F := F) 𝒱 c bd i arg1 harg1 arg2 harg2 arg3 harg3 arg4 harg4 arg5 harg5 arg6 harg6 arg7 harg7 arg8 harg8 X_arg1 X_arg2 X_arg3 X_arg4 X_arg5 G6 G7 G8 n).2.1)
      = accV (fun k b => mulf (dyP (loads arg1 arg2 arg3 arg4 arg5 X_arg1 X_arg2 X_arg3 X_arg4 X_arg5 k) b) (xhatP (loads arg1 arg2 arg3 arg4 arg5 X_arg1 X_arg2 X_arg3 X_arg4 X_arg5 k) b)) (arg7.view.read (Elt F) G7) n h := by
  induction n with
  | zero => rfl
  | succ n ih =>
    rw [pb_k0_t1_succ 𝒱 c bd i arg1 harg1 arg2 harg2 arg3 harg3 arg4 harg4 arg5 harg5 arg6 harg6 arg7 harg7 arg8 harg8 X_arg1 X_arg2 X_arg3 X_arg4 X_arg5 G6 G7 G8 ⟨n, h⟩]
    dsimp only
    rw [View.writes_append, trip_dgamma]
    exact (read_acc arg7.view _ (fun b => mulf (dyP (loads arg1 arg2 arg3 arg4 arg5 X_arg1 X_arg2 X_arg3 X_arg4 X_arg5 ⟨n, h⟩) b) (xhatP (loads arg1 arg2 arg3 arg4 arg5 X_arg1 X_arg2 X_arg3 X_arg4 X_arg5 ⟨n, h⟩) b))).trans
      (congrArg _ (ih (Nat.le_of_succ_le h)))

/-- and that of `dbeta`. -/
theorem read_dbeta (n : ℕ) (h : n ≤ k0_t1_loop.trips) :
    arg8.view.read (Elt F) (arg8.view.writes (Elt F) G8 (pb_k0_t1 (F := F) 𝒱 c bd i arg1 harg1 arg2 harg2 arg3 harg3 arg4 harg4 arg5 harg5 arg6 harg6 arg7 harg7 arg8 harg8 X_arg1 X_arg2 X_arg3 X_arg4 X_arg5 G6 G7 G8 n).2.2)
      = accV (fun k b => dyP (loads arg1 arg2 arg3 arg4 arg5 X_arg1 X_arg2 X_arg3 X_arg4 X_arg5 k) b) (arg8.view.read (Elt F) G8) n h := by
  induction n with
  | zero => rfl
  | succ n ih =>
    rw [pb_k0_t1_succ 𝒱 c bd i arg1 harg1 arg2 harg2 arg3 harg3 arg4 harg4 arg5 harg5 arg6 harg6 arg7 harg7 arg8 harg8 X_arg1 X_arg2 X_arg3 X_arg4 X_arg5 G6 G7 G8 ⟨n, h⟩]
    dsimp only
    rw [View.writes_append, trip_dbeta]
    exact (read_acc arg8.view _ (fun b => dyP (loads arg1 arg2 arg3 arg4 arg5 X_arg1 X_arg2 X_arg3 X_arg4 X_arg5 ⟨n, h⟩) b)).trans (congrArg _ (ih (Nat.le_of_succ_le h)))

/-- Before trip `n` the rows of the groups before it hold their part of `dx`. -/
theorem read_dx (n : ℕ) (h : n ≤ k0_t1_loop.trips) (y : S256x4096.Idx) (hy : (y 0).val < 32 * n) :
    arg6.view.read (Elt F) (arg6.view.writes (Elt F) G6 (pb_k0_t1 (F := F) 𝒱 c bd i arg1 harg1 arg2 harg2 arg3 harg3 arg4 harg4 arg5 harg5 arg6 harg6 arg7 harg7 arg8 harg8 X_arg1 X_arg2 X_arg3 X_arg4 X_arg5 G6 G7 G8 n).1) y = dxV (loads arg1 arg2 arg3 arg4 arg5 X_arg1 X_arg2 X_arg3 X_arg4 X_arg5) y := by
  induction n with
  | zero => exact absurd hy (by omega)
  | succ n ih =>
    rw [pb_k0_t1_succ 𝒱 c bd i arg1 harg1 arg2 harg2 arg3 harg3 arg4 harg4 arg5 harg5 arg6 harg6 arg7 harg7 arg8 harg8 X_arg1 X_arg2 X_arg3 X_arg4 X_arg5 G6 G7 G8 ⟨n, h⟩]
    dsimp only
    rw [View.writes_append, trip_dx]
    have h0 : (y 0).val < 256 := (y 0).isLt
    have h1 : (y 1).val < 4096 := (y 1).isLt
    by_cases hn : (y 0).val < 32 * n
    · rw [View.read_tilePieces_miss _ _ _ _ _ _ 32 (Nat.le_refl _) y 0]
      · exact ih (Nat.le_of_succ_le h) hn
      · intro b _
        rw [offB_eq]
        exact Or.inl hn
    · have hg : grp (y 0).val h0 = ⟨n, h⟩ := Fin.ext (show (y 0).val / 32 = n by omega)
      rw [View.read_tilePieces _ _ _ _ _ _ 32 (Nat.le_refl _) y (blk (y 1).val h1) (blk (y 1).val h1).isLt
        (ix2 (n0 := 32) (n1 := 128) (row (y 0).val) (lane (y 1).val)) _ 1]
      · unfold dxV; rw [hg]
      · intro b hb
        have hb' : b.val ≠ (y 1).val / 128 := fun h => hb (Fin.ext h)
        rw [offB_eq]
        show (y 1).val < 128 * b.val ∨ 128 * b.val + 128 ≤ (y 1).val
        omega
      · intro a
        rw [offB_eq]
        match a with
        | ⟨0, _⟩ => show (y 0).val = 32 * n + (y 0).val % 32; omega
        | ⟨1, _⟩ => show (y 1).val = 128 * ((y 1).val / 128) + (y 1).val % 128; omega

end Cert.KernelIdeal.Value

end
-- ==== Proof.Run.lean ====
/- What one call of the kernel's body leaves: at the first point of the grid it empties the two accumulators, then as at
   every point the loop fills the block of `dx` and takes the block's rows into the accumulators. At any float instance. -/
module

public import proofs.«01_k».proof.Proof.Loop
public import proofs.«01_k».proof.Proof.Gen.KernelIdeal.Frame.Runs

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What group `k` loads of a grid point's blocks. -/
def loadsV (x0 : Vec F S256x4096 .fp8e4m3) (x1 : Vec F S256x32 .f32) (x2 : Vec F S256x4096 .fp8e5m2) (x3 : Vec F S256x2 .f32)
    (x4 : Vec F S3x4096 .f32) (k : Fin k0_t1_loop.trips) : Loads F where
  dys := View.ld (Val := Elt F) x3 (Rect.unit (s := S256x2) (k0_off1 k) S32x1.size (k0_off1_inb k))
  rstd := View.ld (Val := Elt F) x3 (Rect.unit (s := S256x2) (k0_off2 k) S32x1.size (k0_off2_inb k))
  ys := View.ld (Val := Elt F) x1 (Rect.unit (s := S256x32) (k0_off3 k) S32x32.size (k0_off3_inb k))
  gamma b := View.ld (Val := Elt F) x4 (colB 0 b)
  igc b := View.ld (Val := Elt F) x4 (colB 1 b)
  beta b := View.ld (Val := Elt F) x4 (colB 2 b)
  y b := View.ld (Val := Elt F) x0 (rectB k b)
  dy b := View.ld (Val := Elt F) x2 (rectB k b)

/-- A store of a whole accumulator leaves its value. -/
theorem read_full {κ : Kind} {sp : Space} (w : View sig κ sp S8x4096 .f32) (f : w.ty.Contents (Elt F)) (p : Vec F S8x4096 .f32) :
    w.read (Elt F) (w.writes (Elt F) f [⟨Rect.unit (s := S8x4096) ![0, 0] S8x4096.size inb_S8x4096_S8x4096_0_0, p⟩]) = p := by
  funext y
  refine View.read_tilePieces w f S8x4096.size (fun _ : Fin 1 => ![0, 0]) (fun _ => inb_S8x4096_S8x4096_0_0) (fun _ => p) 1 (Nat.le_refl _) y 0 (Nat.zero_lt_one) y ?_ 0 ?_
  · intro a
    match a with
    | ⟨0, _⟩ => exact (Nat.zero_add _).symm
    | ⟨1, _⟩ => exact (Nat.zero_add _).symm
  · intro b hb
    exact absurd (Subsingleton.elim b 0) hb

variable (c : Dev nD) (i : grid0.Coords) (arg1 : Memref sig .tc .vmem S256x4096 .fp8e4m3) (harg1 : arg1.IsWhole) (arg2 : Memref sig .tc .vmem S256x32 .f32) (harg2 : arg2.IsWhole) (arg3 : Memref sig .tc .vmem S256x4096 .fp8e5m2) (harg3 : arg3.IsWhole) (arg4 : Memref sig .tc .vmem S256x2 .f32) (harg4 : arg4.IsWhole) (arg5 : Memref sig .tc .vmem S3x4096 .f32) (harg5 : arg5.IsWhole) (arg6 : Memref sig .tc .vmem S256x4096 .bf16) (harg6 : arg6.IsWhole) (arg7 : Memref sig .tc .vmem S8x4096 .f32) (harg7 : arg7.IsWhole) (arg8 : Memref sig .tc .vmem S8x4096 .f32) (harg8 : arg8.IsWhole)
variable (x0 : Vec F S256x4096 .fp8e4m3) (x1 : Vec F S256x32 .f32) (x2 : Vec F S256x4096 .fp8e5m2) (x3 : Vec F S256x2 .f32) (x4 : Vec F S3x4096 .f32)

/-- Through whole staging buffers the loads are the blocks' own. -/
theorem loads_unread : loads arg1 arg2 arg3 arg4 arg5 (harg1.unread x0) (harg2.unread x1) (harg3.unread x2) (harg4.unread x3) (harg5.unread x4)
    = loadsV x0 x1 x2 x3 x4 := by
  funext k
  unfold loads loadsV
  simp only [View.readAt_eq_ld, harg1.read_unread, harg2.read_unread, harg3.read_unread, harg4.read_unread, harg5.read_unread]

set_option maxHeartbeats 1000000 in
/-- The body at the first grid point, the accumulators' buffers holding anything; -/
theorem runA (hc0 : cond0_0 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (dxV (loadsV x0 x1 x2 x3 x4))
            ∗ owns (c : Thread nD τ) arg7 fullShare (dgV (loadsV x0 x1 x2 x3 x4) (k0_pay1 : Vec F S8x4096 .f32))
            ∗ owns (c : Thread nD τ) arg8 fullShare (dbV (loadsV x0 x1 x2 x3 x4) (k0_pay2 : Vec F S8x4096 .f32))) -∗ K ⟨⟩))
      ⊢ wp frame (wpE (defs₀ (F := F)) Variants.none c none) E (cc0_ln_bwd i arg1 harg1 arg2 harg2 arg3 harg3 arg4 harg4 arg5 harg5 arg6 harg6 arg7 harg7 arg8 harg8) K := by
    simp only [cc0_ln_bwd_eq_skeleton]; unfold cc0_ln_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr
      swap; · iexact H5
      ipureintro; funext y
      refine (read_dx _ _ _ _ _ harg1 _ harg2 _ harg3 _ harg4 _ harg5 _ harg6 _ harg7 _ harg8 _ _ _ _ _ _ _ _ k0_t1_loop.trips (Nat.le_refl _) y ?_).trans (congrFun (congrArg dxV (loads_unread arg1 harg1 arg2 harg2 arg3 harg3 arg4 harg4 arg5 harg5 x0 x1 x2 x3 x4)) y)
      have h := (y 0).isLt; rw [trips_eq]; exact h
    isplitl [H6]
    · iexists _; isplitr
      swap; · iexact H6
      ipureintro; rw [View.writes_append]; refine (read_dgamma _ _ _ _ _ harg1 _ harg2 _ harg3 _ harg4 _ harg5 _ harg6 _ harg7 _ harg8 _ _ _ _ _ _ _ _ k0_t1_loop.trips (Nat.le_refl _)).trans ?_
      unfold dgV
      rw [loads_unread]
      exact congrArg (fun a => accV _ a _ _) (read_full arg7.view _ k0_pay1)
    iexists _; isplitr
    swap; · iexact H7
    ipureintro; rw [View.writes_append]; refine (read_dbeta _ _ _ _ _ harg1 _ harg2 _ harg3 _ harg4 _ harg5 _ harg6 _ harg7 _ harg8 _ _ _ _ _ _ _ _ k0_t1_loop.trips (Nat.le_refl _)).trans ?_
    unfold dbV
    rw [loads_unread]
    exact congrArg (fun a => accV _ a _ _) (read_full arg8.view _ k0_pay2)

set_option maxHeartbeats 1000000 in
/-- at a later one, over what the accumulators hold. -/
theorem runB (hc0 : ¬cond0_0 i) (xo6 xo7 : Vec F S8x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (dxV (loadsV x0 x1 x2 x3 x4))
            ∗ owns (c : Thread nD τ) arg7 fullShare (dgV (loadsV x0 x1 x2 x3 x4) (xo6 : Vec F S8x4096 .f32))
            ∗ owns (c : Thread nD τ) arg8 fullShare (dbV (loadsV x0 x1 x2 x3 x4) (xo7 : Vec F S8x4096 .f32))) -∗ K ⟨⟩))
      ⊢ wp frame (wpE (defs₀ (F := F)) Variants.none c none) E (cc0_ln_bwd i arg1 harg1 arg2 harg2 arg3 harg3 arg4 harg4 arg5 harg5 arg6 harg6 arg7 harg7 arg8 harg8) K := by
    simp only [cc0_ln_bwd_eq_skeleton]; unfold cc0_ln_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr
      swap; · iexact H5
      ipureintro; funext y
      refine (read_dx _ _ _ _ _ harg1 _ harg2 _ harg3 _ harg4 _ harg5 _ harg6 _ harg7 _ harg8 _ _ _ _ _ _ _ _ k0_t1_loop.trips (Nat.le_refl _) y ?_).trans (congrFun (congrArg dxV (loads_unread arg1 harg1 arg2 harg2 arg3 harg3 arg4 harg4 arg5 harg5 x0 x1 x2 x3 x4)) y)
      have h := (y 0).isLt; rw [trips_eq]; exact h
    isplitl [H6]
    · iexists _; isplitr
      swap; · iexact H6
      ipureintro; refine (read_dgamma _ _ _ _ _ harg1 _ harg2 _ harg3 _ harg4 _ harg5 _ harg6 _ harg7 _ harg8 _ _ _ _ _ _ _ _ k0_t1_loop.trips (Nat.le_refl _)).trans ?_
      unfold dgV
      rw [loads_unread]
      exact congrArg (fun a => accV _ a _ _) (harg7.read_unread _)
    iexists _; isplitr
    swap; · iexact H7
    ipureintro; refine (read_dbeta _ _ _ _ _ harg1 _ harg2 _ harg3 _ harg4 _ harg5 _ harg6 _ harg7 _ harg8 _ _ _ _ _ _ _ _ k0_t1_loop.trips (Nat.le_refl _)).trans ?_
    unfold dbV
    rw [loads_unread]
    exact congrArg (fun a => accV _ a _ _) (harg8.read_unread _)

end Cert.KernelIdeal.Value

end
-- ==== Proof.Launch.lean ====
/- The launch of the kernel: the run of the whole grid, block after block, with what the three output blocks hold after each
   point; from it the run of @main and its frame. At any float instance. -/
module

public import proofs.«01_k».proof.Proof.Run
public import Idealize.ShloMosaic.Lib.Claim

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the groups of grid point `t` load. -/
def LB (c : Dev nD) (t : Fin cfg0.N) : Fin k0_t1_loop.trips → Loads F :=
  loadsV (iblk m c 0 t) (iblk m c 1 t) (iblk m c 2 t) (iblk m c 3 t) (iblk m c 4 t)

/-- The accumulator of `dgamma` after point `n`, -/
def accG (c : Dev nD) : (n : ℕ) → n < cfg0.N → Vec F S8x4096 .f32
  | 0, h => dgV (LB m c ⟨0, h⟩) k0_pay1
  | n + 1, h => dgV (LB m c ⟨n + 1, h⟩) (accG c n (Nat.lt_of_succ_lt h))

/-- and that of `dbeta`. -/
def accB (c : Dev nD) : (n : ℕ) → n < cfg0.N → Vec F S8x4096 .f32
  | 0, h => dbV (LB m c ⟨0, h⟩) k0_pay2
  | n + 1, h => dbV (LB m c ⟨n + 1, h⟩) (accB c n (Nat.lt_of_succ_lt h))

/-- The block of `dx` after point `n`. -/
def outX (c : Dev nD) (t : Fin cfg0.N) : Vec F S256x4096 .bf16 := dxV (LB m c t)

/-- At the first grid point the two running sums start from zero, -/
theorem acc_A (c : Dev nD) (t : Fin cfg0.N) (h0 : t.val % 128 = 0) :
    accG m c t.val t.isLt = dgV (LB m c t) k0_pay1 ∧ accB m c t.val t.isLt = dbV (LB m c t) k0_pay2 := by
  obtain ⟨n, hn⟩ := t
  have hN : n < 128 := lt_of_lt_of_eq hn (show cfg0.N = 128 from N_0)
  cases n with
  | zero => exact ⟨rfl, rfl⟩
  | succ n => exact absurd h0 (by dsimp only; omega)

/-- at every other from what the point before left. -/
theorem acc_B (c : Dev nD) (t : Fin cfg0.N) (h0 : ¬t.val % 128 = 0) :
    accG m c t.val t.isLt = dgV (LB m c t) (accG m c (t.val - 1) (Nat.lt_of_le_of_lt (Nat.sub_le _ _) t.isLt))
    ∧ accB m c t.val t.isLt = dbV (LB m c t) (accB m c (t.val - 1) (Nat.lt_of_le_of_lt (Nat.sub_le _ _) t.isLt)) := by
  obtain ⟨n, hn⟩ := t
  cases n with
  | zero => exact absurd (Nat.zero_mod _) h0
  | succ n => exact ⟨rfl, rfl⟩

/-! ## The pipeline's proof data -/

/-- The proof data of the one pipeline on core `c`: the arrays as the region finds them (`V`); after the body at
    point `t` each input's buffer at its block and the outputs' at `outX`, `accG`, `accB`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outX m c t
    | ⟨6, _⟩ => accG m c t.val t.isLt
    | ⟨7, _⟩ => accB m c t.val t.isLt
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- and so for the other inputs; each output's buffer holds what the point computes. -/
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outX m c t := by dsimp only [dats]
theorem after0_6 (c : Dev nD) (t : Fin cfg0.N) : (dats m 0 c).after 6 t = accG m c t.val t.isLt := by dsimp only [dats]
theorem after0_7 (c : Dev nD) (t : Fin cfg0.N) : (dats m 0 c).after 7 t = accB m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The other inputs' likewise. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 128 = 0) (d) :
    (dats m 0 c).before 6 t d = accG m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 128 = 0) (d) :
    (dats m 0 c).before 7 t d = accB m c (t.val - 1) (Nat.lt_of_le_of_lt (Nat.sub_le _ _) t.isLt) := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 128 := lt_of_lt_of_eq t.isLt (show cfg0.N = 128 from N_0)
  by_cases h0 : t.val % 128 = 0
  · rw [(acc_A m c t h0).1, (acc_A m c t h0).2]
    unfold outX LB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ (iblk m c 0 t) (iblk m c 1 t) (iblk m c 2 t) (iblk m c 3 t) (iblk m c 4 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [(acc_B m c t h0).1, (acc_B m c t h0).2]
    simp only [before0_6_B m c t h0, before0_7_B m c t h0]
    unfold outX LB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ (iblk m c 0 t) (iblk m c 1 t) (iblk m c 2 t) (iblk m c 3 t) (iblk m c 4 t) (fun h => h0 ((hcond0_0 t).mp h)) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Value

end
-- ==== Proof.Frame.lean ====
/- The frame of the kernel as printed. Its text is, name for name, the text of the idealized kernel: no rule rewrote anything. So
   the two programs are equal at every float instance, and the frame of the one (`Launch`) is the frame of the other. -/
module

public import proofs.«01_k».proof.Proof.Launch
public import proofs.«01_k».proof.Proof.Gen.Kernel

@[expose] public section

set_option maxRecDepth 16384

noncomputable section

namespace Cert.Kernel.Value

open Idealize.ShloMosaic Idealize.ShloMosaic.TcCoe Idealize.SL.Sem
open Cert.Kernel

variable {F : FTy → Type} [FloatOps F]

/-- The two kernels' bodies are equal. -/
theorem body_eq : @cc0_ln_bwd F _ _ = @KernelIdeal.cc0_ln_bwd F _ _ := rfl

/-- So are their tables of bodies, -/
theorem defs₀_eq : @defs₀ F _ _ = @KernelIdeal.defs₀ F _ _ := by
  unfold defs₀ KernelIdeal.defs₀
  refine congrArg (Defs.onTc (nD := nD) (τ := τ) (sig := sig) (Val := Elt F) (Λ := Λ₀)) ?_
  funext l a
  match l, a with
  | 0, (t, s) => rfl

/-- the same with the pipeline's regions beside them, -/
theorem defs_eq : @defs F _ _ = @KernelIdeal.defs F _ _ := by
  unfold defs KernelIdeal.defs
  exact congrArg _ defs₀_eq

/-- and the programs on the host. -/
theorem main_eq : @main F _ _ = @KernelIdeal.main F _ _ := rfl

/-- The kernel runs, leaves its arguments as they were and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq, main_eq]
  exact KernelIdeal.Value.frame m ρ

end Cert.Kernel.Value

end
-- ==== Proof.Math.lean ====
/- The layer's backward pass over extended reals: the values both programs are compared at. -/
module

public import Idealize.ShloMosaic.Lib.Pointwise
public import Idealize.ShloMosaic.Lib.IdealHost

@[expose] public section

noncomputable section

namespace Cert.Norm

open Idealize.ShloMosaic

/-! ## The constants -/

/-- The bound `gamma` is kept away from zero by is positive, -/
theorem eps_pos : 0 < Ideal.ofBits .f32 0x3C23D70A#32 := by
  rw [show Ideal.ofBits .f32 0x3C23D70A#32 = ((10737418 * (2 : ℝ) ^ (-30 : ℤ) : ℝ) : EReal) by
    simp [Ideal.ofBits, Ideal.ieee, -EReal.coe_mul]]
  exact EReal.coe_pos.mpr (by positivity)

/-- its negative is negative, -/
theorem neg_eps_neg : Ideal.ofBits .f32 0xBC23D70A#32 < 0 := by
  rw [show Ideal.ofBits .f32 0xBC23D70A#32 = ((-(10737418 * (2 : ℝ) ^ (-30 : ℤ)) : ℝ) : EReal) by
    simp [Ideal.ofBits, Ideal.ieee, -EReal.coe_mul, -EReal.coe_neg]]
  exact EReal.coe_neg'.mpr (neg_neg_of_pos (by positivity))

/-- the number of lanes is `4096`, -/
theorem lanes_eq : Ideal.ofBits .f32 0x45800000#32 = ((4096 : ℝ) : EReal) := by
  simp [Ideal.ofBits, Ideal.ieee, -EReal.coe_mul]; norm_num

/-- and its inverse exactly `1 / 4096`. -/
theorem inv_lanes_eq : Ideal.ofBits .f32 0x39800000#32 = ((1 / 4096 : ℝ) : EReal) := by
  simp [Ideal.ofBits, Ideal.ieee, -EReal.coe_mul]; norm_num

/-! ## The values -/

section
variable (Y : FVec Ideal ⟨3, ![4, 8192, 4096]⟩ .fp8e4m3) (YS : FVec Ideal ⟨3, ![4, 8192, 32]⟩ .f32)
  (D : FVec Ideal ⟨3, ![4, 8192, 4096]⟩ .fp8e5m2) (DS R : FVec Ideal ⟨2, ![4, 8192]⟩ .f32) (G B : FVec Ideal ⟨1, ![4096]⟩ .f32)
variable (b : Fin 4) (s : Fin 8192) (w : Fin 4096)

/-- The block of 128 lanes that lane `w` lies in. -/
def blkOf (w : Fin 4096) : Fin 32 := ⟨w.val / 128, by omega⟩
/-- `gamma` kept away from zero, its sign kept. -/
def clampG : EReal := if 0 ≤ G (ix1 w) then max (G (ix1 w)) (Ideal.ofBits .f32 0x3C23D70A#32) else min (G (ix1 w)) (Ideal.ofBits .f32 0xBC23D70A#32)
/-- The normalized input, recovered from the stored output. -/
def xhat : EReal := Ideal.div (Y (ix3 b s w) * YS (ix3 b s (blkOf w)) - B (ix1 w)) (clampG G w)
/-- The incoming gradient. -/
def dy : EReal := D (ix3 b s w) * DS (ix2 b s)
/-- The gradient of the normalized input. -/
def gx : EReal := dy D DS b s w * G (ix1 w)
/-- The mean of a row. -/
def mean (f : Fin 4096 → EReal) : EReal := Ideal.div (∑ w : Fin 4096, f w) (Ideal.ofBits .f32 0x45800000#32)
/-- `dx`. -/
def dx : EReal :=
  R (ix2 b s) * ((gx D DS G b s w - mean (gx D DS G b s)) - xhat Y YS G B b s w * mean (fun w => gx D DS G b s w * xhat Y YS G B b s w))
/-- The three results. -/
def dxOf : FVec Ideal ⟨3, ![4, 8192, 4096]⟩ .bf16 := fun y => dx Y YS D DS R G B (y 0) (y 1) (y 2)
/-- `dgamma`: over all rows, the gradient times the normalized input. -/
def dgammaOf : FVec Ideal ⟨1, ![4096]⟩ .f32 := fun y => ∑ b : Fin 4, ∑ s : Fin 8192, dy D DS b s (y 0) * xhat Y YS G B b s (y 0)
/-- `dbeta`: the gradient over all rows. -/
def dbetaOf : FVec Ideal ⟨1, ![4096]⟩ .f32 := fun y => ∑ b : Fin 4, ∑ s : Fin 8192, dy D DS b s (y 0)

/-- The clamped `gamma` is not zero. -/
theorem clampG_ne : clampG G w ≠ 0 := by
  unfold clampG
  split
  · exact (lt_of_lt_of_le eps_pos (le_max_right _ _)).ne'
  · exact (lt_of_le_of_lt (min_le_right _ _) neg_eps_neg).ne
end

/-- A row's mean is its sum times `1 / 4096`. -/
theorem mean_eq (f : Fin 4096 → EReal) : mean f = (∑ w : Fin 4096, f w) * Ideal.ofBits .f32 0x39800000#32 := by
  unfold mean
  rw [lanes_eq, inv_lanes_eq, Ideal.div_coe (by norm_num)]

/-- A factor that is neither negative nor infinite is distributed over the three terms of `dx`. -/
theorem distrib (r g S x T i : EReal) (h0 : 0 ≤ r) (ht : r ≠ ⊤) :
    r * g - r * S * i - x * (r * T * i) = r * ((g - S * i) - x * (T * i)) := by
  simp only [sub_eq_add_neg]
  rw [EReal.left_distrib_of_nonneg_of_ne_top h0 ht, EReal.left_distrib_of_nonneg_of_ne_top h0 ht]
  simp only [mul_neg]
  rw [mul_assoc r S i, mul_assoc r T i, mul_left_comm x r (T * i)]

/-- A sum over all rows, taken as eight sums over the rows of a residue: 128 blocks, 8 turns of a loop in each, 4 tiles of 8 rows in each turn. -/
theorem sum_by_residue (f : Fin 32768 → EReal) (h : ∀ (t : Fin 128) (k : Fin 8) (j : Fin 4) (r : Fin 8), 256 * t.val + 32 * k.val + (j.val * 8 + r.val) < 32768) :
    ∑ r : Fin 8, ∑ t : Fin 128, ∑ k : Fin 8, ∑ j : Fin 4, f ⟨256 * t.val + 32 * k.val + (j.val * 8 + r.val), h t k j r⟩ = ∑ R : Fin 32768, f R := by
  rw [Fin.sum_univ_tiles 128 256 rfl f, Finset.sum_comm]
  refine Finset.sum_congr rfl fun t _ => ?_
  rw [Fin.sum_univ_tiles 8 32 rfl (fun u : Fin 256 => f ⟨t.val * 256 + u.val, by omega⟩), Finset.sum_comm]
  refine Finset.sum_congr rfl fun k _ => ?_
  rw [Fin.sum_univ_tiles 4 8 rfl (fun u : Fin 32 => f ⟨t.val * 256 + (k.val * 32 + u.val), by omega⟩), Finset.sum_comm]
  refine Finset.sum_congr rfl fun j _ => Finset.sum_congr rfl fun r _ => congrArg f (Fin.ext ?_)
  show 256 * t.val + 32 * k.val + (j.val * 8 + r.val) = t.val * 256 + (k.val * 32 + (j.val * 8 + r.val))
  omega

/-- The same sum by batch and position. -/
theorem sum_by_batch (f : Fin 32768 → EReal) : ∑ R : Fin 32768, f R = ∑ b : Fin 4, ∑ s : Fin 8192, f ⟨b.val * 8192 + s.val, by omega⟩ :=
  Fin.sum_univ_tiles 4 8192 rfl f

end Cert.Norm
-- ==== Proof.Tile.lean ====
/- One group of 32 rows over the extended reals: each tile read at an index, in the loads' own entries. -/
module

public import proofs.«01_k».proof.Proof.Loop
public import Idealize.ShloMosaic.Lib.Pointwise

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

/-- The kernel's 1/4096. -/
abbrev invD : EReal := Ideal.ofBits .f32 0x39800000#32

variable (l : Loads Ideal) (b : Fin 32) (i : Fin 32) (x : Fin 128)

/-- A tile of the normalized input at an index, -/
theorem xhatP_at : xhatP l b (ix2 i x : S32x128.Idx)
    = (l.y b (ix2 i x) * l.ys (ix2 i b) - l.beta b (ix2 0 x)) * l.igc b (ix2 0 x) := by
  pointwise [xhatP]

/-- of the gradient, -/
theorem dyP_at : dyP l b (ix2 i x : S32x128.Idx) = l.dy b (ix2 i x) * l.dys (ix2 i 0) := by
  pointwise [dyP]

/-- of the gradient times `gamma`; -/
theorem gP_at : gP l b (ix2 i x : S32x128.Idx) = l.dy b (ix2 i x) * l.dys (ix2 i 0) * l.gamma b (ix2 0 x) := by
  pointwise [gP, dyP_at]

/-- the sum of the first `n` blocks, -/
theorem sumTo_at (f : Fin 32 → FVec Ideal S32x128 .f32) (n : ℕ) (h : n ≤ 32) (y : S32x128.Idx) :
    sumTo f n h y = ∑ b : Fin n, f ⟨b.val, lt_of_lt_of_le b.isLt h⟩ y := by
  induction n with
  | zero => pointwise [sumTo]; exact (Finset.sum_empty).symm
  | succ n ih =>
    rw [Fin.sum_univ_castSucc]
    exact congrArg (· + _) (ih (Nat.le_of_succ_le h))

/-- `rstd` times the mean of a row, -/
theorem meanP_at (s : FVec Ideal S32x128 .f32) :
    meanP l s (ix2 i 0 : S32x1.Idx) = l.rstd (ix2 i 0) * (∑ x : Fin 128, s (ix2 i x)) * invD := by
  pointwise [meanP]

/-- the mean of the gradient times `gamma` -/
theorem cgP_at : cgP l (ix2 i 0 : S32x1.Idx)
    = l.rstd (ix2 i 0) * (∑ x : Fin 128, ∑ b : Fin 32, gP l b (ix2 i x)) * invD := by
  unfold cgP
  rw [meanP_at]
  simp only [sumTo_at]

/-- and of that times the normalized input; -/
theorem cgxP_at : cgxP l (ix2 i 0 : S32x1.Idx)
    = l.rstd (ix2 i 0) * (∑ x : Fin 128, ∑ b : Fin 32, gP l b (ix2 i x) * xhatP l b (ix2 i x)) * invD := by
  unfold cgxP
  rw [meanP_at]
  simp only [sumTo_at]
  rfl

/-- a tile of `dx`; -/
theorem dxP_at : dxP l b (ix2 i x : S32x128.Idx)
    = l.rstd (ix2 i 0) * gP l b (ix2 i x) - cgP l (ix2 i 0) - xhatP l b (ix2 i x) * cgxP l (ix2 i 0) := by
  pointwise [dxP]

/-- and what a tile adds to a running sum: its rows by residue modulo eight. -/
theorem accP_at (old : Vec Ideal S8x128 .f32) (v : FVec Ideal S32x128 .f32) (r : Fin 8) :
    accP old v (ix2 r x : S8x128.Idx) = old (ix2 r x) + ∑ j : Fin 4, v (ix2 ⟨j.val * 8 + r.val, by omega⟩ x) := by
  pointwise [accP]

/-- The accumulator after `n` groups: what it held, and per group the rows with its own row number modulo eight. -/
theorem accV_at (v : Fin k0_t1_loop.trips → Fin 32 → FVec Ideal S32x128 .f32) (a : Vec Ideal S8x4096 .f32) (n : ℕ)
    (h : n ≤ k0_t1_loop.trips) (r : Fin 8) (w : Fin 4096) :
    accV v a n h (ix2 r w : S8x4096.Idx)
      = a (ix2 r w) + ∑ k : Fin n, ∑ j : Fin 4, v ⟨k.val, lt_of_lt_of_le k.isLt h⟩ (blk w.val w.isLt) (ix2 ⟨j.val * 8 + r.val, by omega⟩ (lane w.val)) := by
  induction n with
  | zero => exact (add_zero _).symm
  | succ n ih =>
    rw [Fin.sum_univ_castSucc, ← add_assoc]
    refine (accP_at (lane w.val) _ _ r).trans (congrArg (· + _) ?_)
    refine Eq.trans ?_ (ih (Nat.le_of_succ_le h))
    refine congrArg (accV v a n _) ?_
    funext ax
    refine Fin.ext ?_
    match ax with
    | ⟨0, _⟩ => exact (Nat.zero_add _).trans (Nat.one_mul _)
    | ⟨1, _⟩ => show 128 * (w.val / 128) + 1 * (w.val % 128) = w.val; omega

end Cert.KernelIdeal.Value

end
-- ==== Proof.Blocks.lean ====
/- What a group loads at a grid point, as entries of the arrays the region is entered with: row `i` of group `k` at point
   `t` is row `256 t + 32 k + i` of the flattened arrays. -/
module

public import proofs.«01_k».proof.Proof.Launch
public import proofs.«01_k».proof.Proof.Tile
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (c : Dev nD)

/-- The arrays the region is entered with: the codes of `y` and its scales, the codes of `dy`, the rows' pairs
    (scale of `dy`, `rstd`), and the three rows `gamma`, its clamped inverse, `beta`. -/
def aY : FVec Ideal S32768x4096 .fp8e4m3 := V m c main_v18
/-- The scales of the input codes, one per block of 128 lanes, -/
def aYS : FVec Ideal S32768x32 .f32 := V m c main_v19
/-- the gradient codes, -/
def aDY : FVec Ideal S32768x4096 .fp8e5m2 := V m c main_v20
/-- the two numbers of a row: the gradient scale and `rstd`, -/
def aRow : FVec Ideal S32768x2 .f32 := V m c main_v17
/-- and the three numbers of a lane: `gamma`, the inverse of the clamped `gamma`, `beta`. -/
def aCol : FVec Ideal S3x4096 .f32 := V m c main_v12

/-- Which block each window is at, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0] ∧ win0_7.index t = ![0, 0] :=
  (by decide +kernel : ∀ t : Fin grid0.N, _)

/-- There are 128 grid points -/
theorem point_lt (t : Fin cfg0.N) : t.val < 128 := lt_of_lt_of_eq t.isLt (show cfg0.N = 128 from N_0)
/-- and 8 turns of the loop at each. -/
theorem trip_lt (k : Fin k0_t1_loop.trips) : k.val < 8 := lt_of_lt_of_eq k.isLt trips_eq

/-- The flattened row of row `i` of group `k` at point `t`, -/
def rowOf (t : Fin cfg0.N) (k : Fin k0_t1_loop.trips) (i : Fin 32) : Fin 32768 :=
  ⟨256 * t.val + 32 * k.val + i.val, by have := point_lt t; have := trip_lt k; omega⟩
/-- and the lane of lane `x` of block `b`. -/
def laneOf (b : Fin 32) (x : Fin 128) : Fin 4096 := ⟨128 * b.val + x.val, by omega⟩

/-- Where the loop reads the gradient scale, -/
theorem off1_eq : ∀ k : Fin k0_t1_loop.trips, k0_off1 k = ![32 * k.val, 0] := by decide +kernel
/-- `rstd`, -/
theorem off2_eq : ∀ k : Fin k0_t1_loop.trips, k0_off2 k = ![32 * k.val, 1] := by decide +kernel
/-- and the block scales. -/
theorem off3_eq : ∀ k : Fin k0_t1_loop.trips, k0_off3 k = ![32 * k.val, 0] := by decide +kernel

variable (t : Fin cfg0.N) (k : Fin k0_t1_loop.trips) (b : Fin 32) (i : Fin 32) (x : Fin 128)

/-- The codes of `y`, -/
theorem load_y : (LB m c t k).y b (ix2 i x) = aY m c (ix2 (rowOf t k i) (laneOf b x)) := by
  unfold LB loadsV aY rowOf laneOf
  dsimp only [View.ld]
  blk_ext [iblk, idx t]
  · show t.val * 256 + (offB k b 0 + 1 * i.val) = 256 * t.val + 32 * k.val + i.val
    rw [offB_eq]; show t.val * 256 + (32 * k.val + 1 * i.val) = _; omega
  · show offB k b 1 + 1 * x.val = 128 * b.val + x.val
    rw [offB_eq]; show 128 * b.val + 1 * x.val = _; omega

/-- of `dy`, -/
theorem load_dy : (LB m c t k).dy b (ix2 i x) = aDY m c (ix2 (rowOf t k i) (laneOf b x)) := by
  unfold LB loadsV aDY rowOf laneOf
  dsimp only [View.ld]
  blk_ext [iblk, idx t]
  · show t.val * 256 + (offB k b 0 + 1 * i.val) = 256 * t.val + 32 * k.val + i.val
    rw [offB_eq]; show t.val * 256 + (32 * k.val + 1 * i.val) = _; omega
  · show offB k b 1 + 1 * x.val = 128 * b.val + x.val
    rw [offB_eq]; show 128 * b.val + 1 * x.val = _; omega

/-- the scales of `y`, -/
theorem load_ys : (LB m c t k).ys (ix2 i b) = aYS m c (ix2 (rowOf t k i) b) := by
  unfold LB loadsV aYS rowOf
  dsimp only [View.ld]
  blk_ext [iblk, idx t]
  · show t.val * 256 + (k0_off3 k 0 + 1 * i.val) = 256 * t.val + 32 * k.val + i.val
    rw [off3_eq]; show t.val * 256 + (32 * k.val + 1 * i.val) = _; omega
  · show k0_off3 k 1 + 1 * b.val = b.val
    rw [off3_eq]; show 0 + 1 * b.val = _; omega

/-- of `dy`, -/
theorem load_dys : (LB m c t k).dys (ix2 i 0) = aRow m c (ix2 (rowOf t k i) 0) := by
  unfold LB loadsV aRow rowOf
  dsimp only [View.ld]
  blk_ext [iblk, idx t]
  · show t.val * 256 + (k0_off1 k 0 + 1 * i.val) = 256 * t.val + 32 * k.val + i.val
    rw [off1_eq]; show t.val * 256 + (32 * k.val + 1 * i.val) = _; omega
  · show k0_off1 k 1 + 1 * 0 = 0
    rw [off1_eq]; rfl

/-- `rstd`, -/
theorem load_rstd : (LB m c t k).rstd (ix2 i 0) = aRow m c (ix2 (rowOf t k i) 1) := by
  unfold LB loadsV aRow rowOf
  dsimp only [View.ld]
  blk_ext [iblk, idx t]
  · show t.val * 256 + (k0_off2 k 0 + 1 * i.val) = 256 * t.val + 32 * k.val + i.val
    rw [off2_eq]; show t.val * 256 + (32 * k.val + 1 * i.val) = _; omega
  · show k0_off2 k 1 + 1 * 0 = 1
    rw [off2_eq]; rfl

/-- `gamma`, -/
theorem load_gamma : (LB m c t k).gamma b (ix2 0 x) = aCol m c (ix2 0 (laneOf b x)) := by
  unfold LB loadsV aCol laneOf
  dsimp only [View.ld]
  blk_ext [iblk, idx t]
  · rfl
  · show 128 * b.val + 1 * x.val = 128 * b.val + x.val; omega

/-- its inverse, -/
theorem load_igc : (LB m c t k).igc b (ix2 0 x) = aCol m c (ix2 1 (laneOf b x)) := by
  unfold LB loadsV aCol laneOf
  dsimp only [View.ld]
  blk_ext [iblk, idx t]
  · rfl
  · show 128 * b.val + 1 * x.val = 128 * b.val + x.val; omega

/-- and `beta`. -/
theorem load_beta : (LB m c t k).beta b (ix2 0 x) = aCol m c (ix2 2 (laneOf b x)) := by
  unfold LB loadsV aCol laneOf
  dsimp only [View.ld]
  blk_ext [iblk, idx t]
  · rfl
  · show 128 * b.val + 1 * x.val = 128 * b.val + x.val; omega

end Cert.KernelIdeal.Value

end
-- ==== Proof.Rows.lean ====
/- What the kernel's three output arrays hold after the region, in the entries of the arrays it is entered with. -/
module

public import proofs.«01_k».proof.Proof.Blocks

@[expose] public section

set_option maxRecDepth 16384

noncomputable section

namespace Cert.KernelIdeal.Value

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (c : Dev nD)

/-- Row `R`, lane `w`: the normalized input, -/
def xA (R : Fin 32768) (w : Fin 4096) : EReal :=
  (aY m c (ix2 R w) * aYS m c (ix2 R (blk w.val w.isLt)) - aCol m c (ix2 2 w)) * aCol m c (ix2 1 w)
/-- the gradient, -/
def dA (R : Fin 32768) (w : Fin 4096) : EReal := aDY m c (ix2 R w) * aRow m c (ix2 R 0)
/-- the gradient times `gamma`, -/
def gA (R : Fin 32768) (w : Fin 4096) : EReal := dA m c R w * aCol m c (ix2 0 w)
/-- `rstd` times the mean of a row, as the kernel forms it, -/
def meanA (f : Fin 32768 → Fin 4096 → EReal) (R : Fin 32768) : EReal := aRow m c (ix2 R 1) * (∑ w : Fin 4096, f R w) * invD
/-- and `dx`. -/
def dxA (R : Fin 32768) (w : Fin 4096) : EReal :=
  aRow m c (ix2 R 1) * gA m c R w - meanA m c (gA m c) R - xA m c R w * meanA m c (fun R w => gA m c R w * xA m c R w) R

section
variable (t : Fin cfg0.N) (k : Fin k0_t1_loop.trips) (b : Fin 32) (i : Fin 32) (x : Fin 128)

/-- Lane `128 b + x` lies in block `b`. -/
theorem blk_lane : blk (laneOf b x).val (laneOf b x).isLt = b := Fin.ext (by show (128 * b.val + x.val) / 128 = b.val; omega)

/-- A tile of the normalized input, -/
theorem xhat_blk : xhatP (LB m c t k) b (ix2 i x) = xA m c (rowOf t k i) (laneOf b x) := by
  rw [xhatP_at, load_y, load_ys, load_beta, load_igc]
  unfold xA
  rw [blk_lane]

/-- of the gradient -/
theorem dy_blk : dyP (LB m c t k) b (ix2 i x) = dA m c (rowOf t k i) (laneOf b x) := by
  rw [dyP_at, load_dy, load_dys]; rfl

/-- and of the gradient times `gamma`, at the row and lane it holds. -/
theorem g_blk : gP (LB m c t k) b (ix2 i x) = gA m c (rowOf t k i) (laneOf b x) := by
  rw [gP_at, load_dy, load_dys, load_gamma]; rfl

/-- A sum over the lanes, block by block. -/
theorem sum_lanes (f : Fin 4096 → EReal) : ∑ x : Fin 128, ∑ b : Fin 32, f (laneOf b x) = ∑ w : Fin 4096, f w := by
  rw [Finset.sum_comm]
  refine Eq.symm ((Fin.sum_univ_tiles 32 128 rfl f).trans (Finset.sum_congr rfl fun b _ => Finset.sum_congr rfl fun x _ => congrArg f (Fin.ext ?_)))
  show b.val * 128 + x.val = 128 * b.val + x.val
  omega

/-- A tile of `dx`. -/
theorem dx_blk : dxP (LB m c t k) b (ix2 i x) = dxA m c (rowOf t k i) (laneOf b x) := by
  rw [dxP_at, cgP_at, cgxP_at, load_rstd]
  simp only [g_blk, xhat_blk]
  rw [sum_lanes (fun w => gA m c (rowOf t k i) w), sum_lanes (fun w => gA m c (rowOf t k i) w * xA m c (rowOf t k i) w)]
  rfl

end

/-- Row number `r` modulo eight, in turn: the row of step `j` of group `k` at point `t`. -/
def rowStep (t : Fin 128) (k : Fin 8) (j : Fin 4) (r : Fin 8) : Fin 32768 := ⟨256 * t.val + 32 * k.val + (j.val * 8 + r.val), by omega⟩

/-- The sum of a column over the rows congruent to `r` modulo eight, as the kernel takes it. -/
def colSum (f : Fin 32768 → Fin 4096 → EReal) (r : Fin 8) (w : Fin 4096) : EReal :=
  ∑ t : Fin 128, ∑ k : Fin 8, ∑ j : Fin 4, f (rowStep t k j r) w

/-- A lane is the lane of its block it is. -/
theorem laneOf_blk (w : Fin 4096) : laneOf (blk w.val w.isLt) (lane w.val) = w :=
  Fin.ext (by show 128 * (w.val / 128) + w.val % 128 = w.val; omega)

/-- A sum over the turns of the loop. -/
theorem sum_trips {n : ℕ} (hn : n = 8) (f : Fin n → EReal) : ∑ k : Fin n, f k = ∑ k : Fin 8, f ⟨k.val, by omega⟩ := by
  subst hn; rfl

/-- What one grid point adds to the running sum for `dgamma` -/
theorem dgV_at (t : Fin cfg0.N) (a : Vec Ideal S8x4096 .f32) (r : Fin 8) (w : Fin 4096) :
    dgV (LB m c t) a (ix2 r w) = a (ix2 r w) + ∑ k : Fin 8, ∑ j : Fin 4,
      dA m c (rowStep ⟨t.val, point_lt t⟩ k j r) w * xA m c (rowStep ⟨t.val, point_lt t⟩ k j r) w := by
  unfold dgV
  rw [accV_at, sum_trips trips_eq]
  refine congrArg (_ + ·) (Finset.sum_congr rfl fun k _ => Finset.sum_congr rfl fun j _ => ?_)
  refine (congrArg₂ (· * ·) (dy_blk m c t _ _ _ _) (xhat_blk m c t _ _ _ _)).trans ?_
  rw [laneOf_blk]
  rfl

/-- and to the one for `dbeta`. -/
theorem dbV_at (t : Fin cfg0.N) (a : Vec Ideal S8x4096 .f32) (r : Fin 8) (w : Fin 4096) :
    dbV (LB m c t) a (ix2 r w) = a (ix2 r w) + ∑ k : Fin 8, ∑ j : Fin 4, dA m c (rowStep ⟨t.val, point_lt t⟩ k j r) w := by
  unfold dbV
  rw [accV_at, sum_trips trips_eq]
  refine congrArg (_ + ·) (Finset.sum_congr rfl fun k _ => Finset.sum_congr rfl fun j _ => ?_)
  refine (dy_blk m c t _ _ _ _).trans ?_
  rw [laneOf_blk]
  rfl

/-- The accumulators after point `n`: the rows of every point so far. -/
theorem accG_at (n : ℕ) (h : n < cfg0.N) (r : Fin 8) (w : Fin 4096) :
    accG m c n h (ix2 r w) = ∑ t : Fin (n + 1), ∑ k : Fin 8, ∑ j : Fin 4,
      dA m c (rowStep ⟨t.val, Nat.lt_of_lt_of_le t.isLt (point_lt ⟨n, h⟩)⟩ k j r) w * xA m c (rowStep ⟨t.val, Nat.lt_of_lt_of_le t.isLt (point_lt ⟨n, h⟩)⟩ k j r) w := by
  induction n with
  | zero =>
    refine (dgV_at m c ⟨0, h⟩ _ r w).trans ?_
    have hz : (k0_pay1 (F := Ideal)) (ix2 r w : S8x4096.Idx) = (0 : EReal) := by pointwise [k0_pay1]
    rw [hz, zero_add, Fin.sum_univ_one]
    rfl
  | succ n ih =>
    rw [Fin.sum_univ_castSucc]
    exact (dgV_at m c ⟨n + 1, h⟩ _ r w).trans (congrArg (· + _) (ih (Nat.lt_of_succ_lt h)))

/-- The same for `dbeta`. -/
theorem accB_at (n : ℕ) (h : n < cfg0.N) (r : Fin 8) (w : Fin 4096) :
    accB m c n h (ix2 r w) = ∑ t : Fin (n + 1), ∑ k : Fin 8, ∑ j : Fin 4,
      dA m c (rowStep ⟨t.val, Nat.lt_of_lt_of_le t.isLt (point_lt ⟨n, h⟩)⟩ k j r) w := by
  induction n with
  | zero =>
    refine (dbV_at m c ⟨0, h⟩ _ r w).trans ?_
    have hz : (k0_pay2 (F := Ideal)) (ix2 r w : S8x4096.Idx) = (0 : EReal) := by pointwise [k0_pay2]
    rw [hz, zero_add, Fin.sum_univ_one]
    rfl
  | succ n ih =>
    rw [Fin.sum_univ_castSucc]
    exact (dbV_at m c ⟨n + 1, h⟩ _ r w).trans (congrArg (· + _) (ih (Nat.lt_of_succ_lt h)))

/-- The three arrays after the region. -/
def DX : FVec Ideal S32768x4096 .bf16 := fun y => dxA m c (y 0) (y 1)
/-- the running sum for `dgamma` -/
def DG : FVec Ideal S8x4096 .f32 := fun y => colSum (fun R w => dA m c R w * xA m c R w) (y 0) (y 1)
/-- and the one for `dbeta`, after the last grid point. -/
def DB : FVec Ideal S8x4096 .f32 := fun y => colSum (dA m c) (y 0) (y 1)

/-- Those are the contents: of the first, -/
theorem final_dx : (dats m 0 c).arrAt 5 (cfgs 0).N = DX m c := by
  refine (dats m 0 c).arrAt_eq_of_covers 5 _ (by decide +kernel) fun t _ y => ?_
  blk_simp
  rw [after0_5]
  refine (dx_blk m c t _ _ _ _).trans ?_
  refine congrArg₂ (dxA m c) (Fin.ext ?_) (Fin.ext ?_)
  · have h0 : (y 0).val < 256 := (y 0).isLt
    have e : (((win0_5.blk t).view.emb y) 0 : ℕ) = t.val * 256 + (y 0).val := by blk_simp [idx t]
    refine Eq.trans ?_ e.symm
    show 256 * t.val + 32 * ((y 0).val / 32) + (y 0).val % 32 = _
    omega
  · have h1 : (y 1).val < 4096 := (y 1).isLt
    have e : (((win0_5.blk t).view.emb y) 1 : ℕ) = (y 1).val := by blk_simp [idx t]
    refine Eq.trans ?_ e.symm
    show 128 * ((y 1).val / 128) + (y 1).val % 128 = _
    omega

/-- of the second -/
theorem final_dgamma : (dats m 0 c).arrAt 6 (cfgs 0).N = DG m c := by
  refine (dats m 0 c).arrAt_eq_of_covers 6 _ (by decide +kernel) fun t hf y => ?_
  blk_simp
  rw [after0_6]
  have ht : t.val = 127 := by have := (flush0_6 t).mp hf; have := point_lt t; omega
  have e : (win0_6.blk t).view.emb y = (ix2 (y 0) (y 1) : S8x4096.Idx) := by
    funext ax
    refine Fin.ext ?_
    match ax with
    | ⟨0, _⟩ => show (((win0_6.blk t).view.emb y) 0 : ℕ) = (y 0).val; blk_simp [idx t]
    | ⟨1, _⟩ => show (((win0_6.blk t).view.emb y) 1 : ℕ) = (y 1).val; blk_simp [idx t]
  rw [e]
  obtain ⟨n, hn⟩ := t
  obtain rfl : n = 127 := ht
  refine (congrArg (accG m c 127 hn) (eq_ix2 (n0 := 8) (n1 := 4096) y)).trans ?_
  exact accG_at m c 127 hn (y 0) (y 1)

/-- and of the third. -/
theorem final_dbeta : (dats m 0 c).arrAt 7 (cfgs 0).N = DB m c := by
  refine (dats m 0 c).arrAt_eq_of_covers 7 _ (by decide +kernel) fun t hf y => ?_
  blk_simp
  rw [after0_7]
  have ht : t.val = 127 := by have := (flush0_7 t).mp hf; have := point_lt t; omega
  have e : (win0_7.blk t).view.emb y = (ix2 (y 0) (y 1) : S8x4096.Idx) := by
    funext ax
    refine Fin.ext ?_
    match ax with
    | ⟨0, _⟩ => show (((win0_7.blk t).view.emb y) 0 : ℕ) = (y 0).val; blk_simp [idx t]
    | ⟨1, _⟩ => show (((win0_7.blk t).view.emb y) 1 : ℕ) = (y 1).val; blk_simp [idx t]
  rw [e]
  obtain ⟨n, hn⟩ := t
  obtain rfl : n = 127 := ht
  refine (congrArg (accB m c 127 hn) (eq_ix2 (n0 := 8) (n1 := 4096) y)).trans ?_
  exact accB_at m c 127 hn (y 0) (y 1)

end Cert.KernelIdeal.Value

end
-- ==== Proof.Entry.lean ====
/- The arrays the region is entered with, in the entries of the arguments. -/
module

public import proofs.«01_k».proof.Proof.Rows
public import Idealize.ShloMosaic.Lib.Claim

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The arguments. -/
def gY : FVec Ideal S4x8192x4096 .fp8e4m3 := m ((c : Thread nD τ).loc main_arg0)
/-- the scales of the input codes, -/
def gYS : FVec Ideal S4x8192x32 .f32 := m ((c : Thread nD τ).loc main_arg1)
/-- the gradient codes, -/
def gDY : FVec Ideal S4x8192x4096 .fp8e5m2 := m ((c : Thread nD τ).loc main_arg2)
/-- the gradient scales, -/
def gDYS : FVec Ideal S4x8192 .f32 := m ((c : Thread nD τ).loc main_arg3)
/-- `rstd`, -/
def gR : FVec Ideal S4x8192 .f32 := m ((c : Thread nD τ).loc main_arg4)
/-- `gamma` -/
def gG : FVec Ideal S4096 .f32 := m ((c : Thread nD τ).loc main_arg5)
/-- and `beta`. -/
def gB : FVec Ideal S4096 .f32 := m ((c : Thread nD τ).loc main_arg6)

/-- A flattened row's batch and position. -/
def bat (R : Fin 32768) : Fin 4 := ⟨R.val / 8192, by omega⟩
/-- and its position in the batch. -/
def pos (R : Fin 32768) : Fin 8192 := ⟨R.val % 8192, by omega⟩

variable (R : Fin 32768) (w : Fin 4096) (b : Fin 32)

/-- Row `R` of the input codes, -/
theorem aY_at : aY m c (ix2 R w) = gY m c (ix3 (bat R) (pos R) w) := by
  unfold aY gY
  dsimp only [V, V0]
  simp only [hostOps0, hostOps0_1, hostOps0_2, List.flatten_cons, List.flatten_nil, List.append_nil, List.cons_append, List.nil_append]
  entry_read
  pointwise
  rfl

/-- of their scales, -/
theorem aYS_at : aYS m c (ix2 R b) = gYS m c (ix3 (bat R) (pos R) b) := by
  unfold aYS gYS
  dsimp only [V, V0]
  simp only [hostOps0, hostOps0_1, hostOps0_2, List.flatten_cons, List.flatten_nil, List.append_nil, List.cons_append, List.nil_append]
  entry_read
  pointwise
  rfl

/-- of the gradient codes, -/
theorem aDY_at : aDY m c (ix2 R w) = gDY m c (ix3 (bat R) (pos R) w) := by
  unfold aDY gDY
  dsimp only [V, V0]
  simp only [hostOps0, hostOps0_1, hostOps0_2, List.flatten_cons, List.flatten_nil, List.append_nil, List.cons_append, List.nil_append]
  entry_read
  pointwise
  rfl

/-- of the gradient scale -/
theorem aRow0_at : aRow m c (ix2 R 0) = gDYS m c (ix2 (bat R) (pos R)) := by
  unfold aRow gDYS
  dsimp only [V, V0]
  simp only [hostOps0, hostOps0_1, hostOps0_2, List.flatten_cons, List.flatten_nil, List.append_nil, List.cons_append, List.nil_append]
  entry_read
  pointwise
  rfl

/-- and of `rstd`. -/
theorem aRow1_at : aRow m c (ix2 R 1) = gR m c (ix2 (bat R) (pos R)) := by
  unfold aRow gR
  dsimp only [V, V0]
  simp only [hostOps0, hostOps0_1, hostOps0_2, List.flatten_cons, List.flatten_nil, List.append_nil, List.cons_append, List.nil_append]
  entry_read
  pointwise
  rfl

end Cert.KernelIdeal.Value

end
-- ==== Proof.Cols.lean ====
/- The table of three rows the region is entered with: `gamma`, the inverse of the clamped `gamma`, `beta`. -/
module

public import proofs.«01_k».proof.Proof.Entry
public import Idealize.ShloMosaic.Lib.Claim
public import Idealize.ShloMosaic.Lib.StableHlo.RunRead

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The last stretch of host lines over any contents `σ`: the table of three rows, -/
theorem tail_cols (σ : Valuation τ sig (Elt Ideal)) : (StableHlo.after hostOps0_2 σ (Proc.devRef .tc main_v12) : FVec Ideal S3x4096 .f32)
    = concatenate S3x4096 0 [⟨S1x4096, broadcastInDim S1x4096 ![1] bcast_S4096_S1x4096_1 (show FVec Ideal S4096 .f32 from σ (Proc.devRef .tc main_arg5))⟩,
        ⟨S1x4096, broadcastInDim S1x4096 ![1] bcast_S4096_S1x4096_1
          (Host.divf (broadcastInDim S4096 ![] bcast_S_S4096 (constant S_ .f32 0x3F800000#32)) (show FVec Ideal S4096 .f32 from σ (Proc.devRef .tc main_v6)) : FVec Ideal S4096 .f32)⟩,
        ⟨S1x4096, broadcastInDim S1x4096 ![1] bcast_S4096_S1x4096_1 (show FVec Ideal S4096 .f32 from σ (Proc.devRef .tc main_arg6))⟩]
        concatenates_S1x4096_S1x4096_S1x4096_S3x4096_d0 := by
  have h := (StableHlo.after_last_write (ops := hostOps0_2 (F := Ideal)) (i := 6)
    [main_v13, main_v14, main_v15, main_v16, main_v17, main_v18, main_v19, main_v20] (r := main_v12) rfl rfl (by decide) σ).trans
    (StableHlo.nary_result ..)
  have h9 : (StableHlo.upto hostOps0_2 σ 6 (Proc.devRef .tc main_v9) : FVec Ideal S1x4096 .f32)
      = broadcastInDim S1x4096 ![1] bcast_S4096_S1x4096_1 (show FVec Ideal S4096 .f32 from σ (Proc.devRef .tc main_arg5)) := by
    unfold StableHlo.upto; simp only [hostOps0_2, List.take_succ_cons, List.take_zero]; (entry_read; rfl)
  have h10 : (StableHlo.upto hostOps0_2 σ 6 (Proc.devRef .tc main_v10) : FVec Ideal S1x4096 .f32)
      = broadcastInDim S1x4096 ![1] bcast_S4096_S1x4096_1
          (Host.divf (broadcastInDim S4096 ![] bcast_S_S4096 (constant S_ .f32 0x3F800000#32)) (show FVec Ideal S4096 .f32 from σ (Proc.devRef .tc main_v6)) : FVec Ideal S4096 .f32) := by
    unfold StableHlo.upto; simp only [hostOps0_2, List.take_succ_cons, List.take_zero]; (entry_read; rfl)
  have h11 : (StableHlo.upto hostOps0_2 σ 6 (Proc.devRef .tc main_v11) : FVec Ideal S1x4096 .f32)
      = broadcastInDim S1x4096 ![1] bcast_S4096_S1x4096_1 (show FVec Ideal S4096 .f32 from σ (Proc.devRef .tc main_arg6)) := by
    unfold StableHlo.upto; simp only [hostOps0_2, List.take_succ_cons, List.take_zero]; (entry_read; rfl)
  rw [← h9, ← h10, ← h11]
  exact h

/-- the clamped `gamma`, -/
theorem mid_clamp (σ : Valuation τ sig (Elt Ideal)) : (StableHlo.after hostOps0_1 σ (Proc.devRef .tc main_v6) : FVec Ideal S4096 .f32)
    = select (σ (Proc.devRef .tc main_v1)) (show FVec Ideal S4096 .f32 from σ (Proc.devRef .tc main_v3)) (σ (Proc.devRef .tc main_v5)) := by
  simp only [hostOps0_1]
  entry_read; rfl

/-- `gamma` is kept by the stretch in the middle, -/
theorem mid_arg5 (σ : Valuation τ sig (Elt Ideal)) : StableHlo.after hostOps0_1 σ (Proc.devRef .tc main_arg5) = σ (Proc.devRef .tc main_arg5) := by
  simp only [hostOps0_1]
  entry_read; rfl

/-- and so is `beta`. -/
theorem mid_arg6 (σ : Valuation τ sig (Elt Ideal)) : StableHlo.after hostOps0_1 σ (Proc.devRef .tc main_arg6) = σ (Proc.devRef .tc main_arg6) := by
  simp only [hostOps0_1]
  entry_read; rfl

/-- and what it is chosen from. -/
theorem head_cond (σ : Valuation τ sig (Elt Ideal)) : (StableHlo.after hostOps0 σ (Proc.devRef .tc main_v1) : IVec S4096 1)
    = cmpf .oge (show FVec Ideal S4096 .f32 from σ (Proc.devRef .tc main_arg5)) (broadcastInDim S4096 ![] bcast_S_S4096 (constant S_ .f32 0x00000000#32)) := by
  simp only [hostOps0]
  entry_read; rfl

/-- the larger of `gamma` and the bound, -/
theorem head_max (σ : Valuation τ sig (Elt Ideal)) : (StableHlo.after hostOps0 σ (Proc.devRef .tc main_v3) : FVec Ideal S4096 .f32)
    = maximumf (show FVec Ideal S4096 .f32 from σ (Proc.devRef .tc main_arg5)) (broadcastInDim S4096 ![] bcast_S_S4096 (constant S_ .f32 0x3C23D70A#32)) := by
  simp only [hostOps0]
  entry_read; rfl

/-- the smaller of `gamma` and minus the bound, -/
theorem head_min (σ : Valuation τ sig (Elt Ideal)) : (StableHlo.after hostOps0 σ (Proc.devRef .tc main_v5) : FVec Ideal S4096 .f32)
    = minimumf (show FVec Ideal S4096 .f32 from σ (Proc.devRef .tc main_arg5)) (broadcastInDim S4096 ![] bcast_S_S4096 (constant S_ .f32 0xBC23D70A#32)) := by
  simp only [hostOps0]
  entry_read; rfl

/-- `gamma` unchanged -/
theorem head_arg5 (σ : Valuation τ sig (Elt Ideal)) : StableHlo.after hostOps0 σ (Proc.devRef .tc main_arg5) = σ (Proc.devRef .tc main_arg5) := by
  simp only [hostOps0]
  entry_read; rfl

/-- and `beta` unchanged. -/
theorem head_arg6 (σ : Valuation τ sig (Elt Ideal)) : StableHlo.after hostOps0 σ (Proc.devRef .tc main_arg6) = σ (Proc.devRef .tc main_arg6) := by
  simp only [hostOps0]
  entry_read; rfl

/-- The clamped `gamma` of lane `w`. -/
def gcl (w : Fin 4096) : EReal :=
  if (0 : EReal) ≤ gG m c (ix1 w) then max (gG m c (ix1 w)) (Ideal.ofBits .f32 0x3C23D70A#32) else min (gG m c (ix1 w)) (Ideal.ofBits .f32 0xBC23D70A#32)

/-- The table the region is entered with, over the arguments. -/
theorem aCol_eq : aCol m c = concatenate S3x4096 0 [⟨S1x4096, broadcastInDim S1x4096 ![1] bcast_S4096_S1x4096_1 (gG m c)⟩,
        ⟨S1x4096, broadcastInDim S1x4096 ![1] bcast_S4096_S1x4096_1
          (Host.divf (broadcastInDim S4096 ![] bcast_S_S4096 (constant S_ .f32 0x3F800000#32))
            (select (cmpf .oge (gG m c) (broadcastInDim S4096 ![] bcast_S_S4096 (constant S_ .f32 0x00000000#32)))
              (maximumf (gG m c) (broadcastInDim S4096 ![] bcast_S_S4096 (constant S_ .f32 0x3C23D70A#32)))
              (minimumf (gG m c) (broadcastInDim S4096 ![] bcast_S_S4096 (constant S_ .f32 0xBC23D70A#32)))) : FVec Ideal S4096 .f32)⟩,
        ⟨S1x4096, broadcastInDim S1x4096 ![1] bcast_S4096_S1x4096_1 (gB m c)⟩]
        concatenates_S1x4096_S1x4096_S1x4096_S3x4096_d0 := by
  have e : aCol m c = StableHlo.after hostOps0_2 (StableHlo.after hostOps0_1 (StableHlo.after hostOps0 (fun b => m (c, b)))) (Proc.devRef .tc main_v12) := by
    unfold aCol
    dsimp only [V, V0]
    rw [List.flatten_cons, List.flatten_cons, List.flatten_cons, List.flatten_nil, List.append_nil, StableHlo.after_append, StableHlo.after_append]
  rw [e, tail_cols, mid_clamp, mid_arg5, mid_arg6, head_cond, head_max, head_min, head_arg5, head_arg6]
  rfl

variable (w : Fin 4096)

/-- Its first row is `gamma`, -/
theorem aCol0_at : aCol m c (ix2 0 w) = gG m c (ix1 w) := by
  rw [aCol_eq]
  pointwise

/-- its second the inverse of the clamped `gamma`, -/
theorem aCol1_at : aCol m c (ix2 1 w) = Ideal.div 1 (gcl m c w) := by
  rw [aCol_eq]
  pointwise [gcl]

/-- its third `beta`. -/
theorem aCol2_at : aCol m c (ix2 2 w) = gB m c (ix1 w) := by
  rw [aCol_eq]
  pointwise

end Cert.KernelIdeal.Value

end
-- ==== Proof.Results.lean ====
/- What the kernel's run leaves in its three results, in the entries of the region's output arrays. -/
module

public import proofs.«01_k».proof.Proof.Rows
public import proofs.«01_k».proof.Proof.Entry
public import Idealize.ShloMosaic.Lib.Claim

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg) (c : Dev nD)

/-- The host lines after the region, over any contents `σ`: `dx` is the first output in its three axes, -/
theorem tail_dx (σ : Valuation τ sig (Elt Ideal)) : (StableHlo.after hostOps1 σ (Proc.devRef .tc main_v22) : FVec Ideal S4x8192x4096 .bf16)
    = shapeCast S4x8192x4096 (show FVec Ideal S32768x4096 .bf16 from σ (Proc.devRef .tc main_v21_0)) shapeCasts_S32768x4096_S4x8192x4096 := by
  simp only [hostOps1]
  entry_read; rfl

/-- `dgamma` is the second output summed over its eight rows, -/
theorem tail_dgamma (σ : Valuation τ sig (Elt Ideal)) : (StableHlo.after hostOps1 σ (Proc.devRef .tc main_v23) : FVec Ideal S4096 .f32)
    = Host.reduceAdd (show FVec Ideal S8x4096 .f32 from σ (Proc.devRef .tc main_v21_1)) (constant S_ .f32 0x00000000#32) reducesTo_S8x4096_S4096_d0 h_S_ := by
  simp only [hostOps1]
  entry_read; rfl

/-- and `dbeta` the third. -/
theorem tail_dbeta (σ : Valuation τ sig (Elt Ideal)) : (StableHlo.after hostOps1 σ (Proc.devRef .tc main_v24) : FVec Ideal S4096 .f32)
    = Host.reduceAdd (show FVec Ideal S8x4096 .f32 from σ (Proc.devRef .tc main_v21_2)) (constant S_ .f32 0x00000000#32) reducesTo_S8x4096_S4096_d0 h_S_ := by
  simp only [hostOps1]
  entry_read; rfl

/-- What every array holds when the region has ended, -/
abbrev endV : Valuation τ sig (Elt Ideal) := Pipeline.withArrays (cfgs 0).spec c (V0 m c) fun w => (dats m 0 c).arrAt w (cfgs 0).N

/-- the first output, -/
theorem end_dx : endV m c (Proc.devRef .tc main_v21_0) = DX m c :=
  (Pipeline.withArrays_arr_shared (cfgs 0).spec c (V0 m c) _ (fun w w' hne e => absurd ((by decide : Function.Injective (Pipeline.arrRef spec0)) e) hne) 5).trans (final_dx m c)
/-- the second -/
theorem end_dgamma : endV m c (Proc.devRef .tc main_v21_1) = DG m c :=
  (Pipeline.withArrays_arr_shared (cfgs 0).spec c (V0 m c) _ (fun w w' hne e => absurd ((by decide : Function.Injective (Pipeline.arrRef spec0)) e) hne) 6).trans (final_dgamma m c)
/-- and the third. -/
theorem end_dbeta : endV m c (Proc.devRef .tc main_v21_2) = DB m c :=
  (Pipeline.withArrays_arr_shared (cfgs 0).spec c (V0 m c) _ (fun w w' hne e => absurd ((by decide : Function.Injective (Pipeline.arrRef spec0)) e) hne) 7).trans (final_dbeta m c)

/-- Row `8192 b + s` of the flattened rows. -/
def flat (b : Fin 4) (s : Fin 8192) : Fin 32768 := ⟨b.val * 8192 + s.val, by omega⟩

/-- The kernel's results after its run: -/
def resDX : FVec Ideal S4x8192x4096 .bf16 := fun y => dxA m c (flat (y 0) (y 1)) (y 2)
/-- the second sums eight partial sums per lane, -/
def resDG : FVec Ideal S4096 .f32 := fun y => ∑ r : Fin 8, colSum (fun R w => dA m c R w * xA m c R w) r (y 0)
/-- and so does the third. -/
def resDB : FVec Ideal S4096 .f32 := fun y => ∑ r : Fin 8, colSum (dA m c) r (y 0)

/-- Splitting the rows into batch and position, -/
theorem cast_rows (X : FVec Ideal S32768x4096 .bf16) (b : Fin 4) (s : Fin 8192) (w : Fin 4096) :
    shapeCast S4x8192x4096 X shapeCasts_S32768x4096_S4x8192x4096 (ix3 b s w) = X (ix2 (flat b s) w) := by
  pointwise
  blk_ext [flat]

/-- and summing the eight rows. -/
theorem sum_rows (X : FVec Ideal S8x4096 .f32) (w : Fin 4096) :
    (Host.reduceAdd X (constant S_ .f32 0x00000000#32) reducesTo_S8x4096_S4096_d0 h_S_ : FVec Ideal S4096 .f32) (ix1 w) = ∑ r : Fin 8, X (ix2 r w) := by
  pointwise

/-- The first result, -/
theorem res_dx : Pipeline.afterTail₀ cfgs (dats m) 0 (V0 m) [hostOps1] c main_v22 = resDX m c := by
  unfold Pipeline.afterTail₀
  simp only [List.flatten_cons, List.flatten_nil, List.append_nil]
  refine (tail_dx (endV m c)).trans ?_
  funext y
  refine (congrArg (fun X : FVec Ideal S32768x4096 .bf16 => shapeCast S4x8192x4096 X shapeCasts_S32768x4096_S4x8192x4096 y) (end_dx m c)).trans ?_
  idx_vars y
  exact cast_rows _ _ _ _

/-- the second -/
theorem res_dgamma : Pipeline.afterTail₀ cfgs (dats m) 0 (V0 m) [hostOps1] c main_v23 = resDG m c := by
  unfold Pipeline.afterTail₀
  simp only [List.flatten_cons, List.flatten_nil, List.append_nil]
  refine (tail_dgamma (endV m c)).trans ?_
  funext y
  refine (congrArg (fun X : FVec Ideal S8x4096 .f32 => (Host.reduceAdd X (constant S_ .f32 0x00000000#32) reducesTo_S8x4096_S4096_d0 h_S_ : FVec Ideal S4096 .f32) y) (end_dgamma m c)).trans ?_
  idx_vars y
  exact sum_rows _ _

/-- and the third, after the host lines. -/
theorem res_dbeta : Pipeline.afterTail₀ cfgs (dats m) 0 (V0 m) [hostOps1] c main_v24 = resDB m c := by
  unfold Pipeline.afterTail₀
  simp only [List.flatten_cons, List.flatten_nil, List.append_nil]
  refine (tail_dbeta (endV m c)).trans ?_
  funext y
  refine (congrArg (fun X : FVec Ideal S8x4096 .f32 => (Host.reduceAdd X (constant S_ .f32 0x00000000#32) reducesTo_S8x4096_S4096_d0 h_S_ : FVec Ideal S4096 .f32) y) (end_dbeta m c)).trans ?_
  idx_vars y
  exact sum_rows _ _

/-- Every run of the kernel ends with `dx`, `dgamma`, `dbeta` in its three results. -/
theorem run_values : θ_run defs (onTc (τ := τ) (main (F := Ideal))) ⟨m, fun _ => 0, ρ⟩ (fun r => ∀ c : Dev nD,
      r.2.mem ((c.tc : Thread nD τ).loc main_v22) = resDX m c
      ∧ r.2.mem ((c.tc : Thread nD τ).loc main_v23) = resDG m c
      ∧ r.2.mem ((c.tc : Thread nD τ).loc main_v24) = resDB m c) :=
  (θ_run defs _ _).mono (fun r h c =>
    ⟨((h c).2 main_v22 (Pipeline.mem_restRefs_of main_v22 (by decide) (by decide))).trans (res_dx m c),
     ((h c).2 main_v23 (Pipeline.mem_restRefs_of main_v23 (by decide) (by decide))).trans (res_dgamma m c),
     ((h c).2 main_v24 (Pipeline.mem_restRefs_of main_v24 (by decide) (by decide))).trans (res_dbeta m c)⟩) (run_main m ρ)

end Cert.KernelIdeal.Value
-- ==== Proof.Equation.lean ====
/- The kernel's three results are the backward pass's values, entry by entry. -/
module

public import proofs.«01_k».proof.Proof.Math
public import proofs.«01_k».proof.Proof.Cols
public import proofs.«01_k».proof.Proof.Results

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (c : Dev nD)
variable (R : Fin 32768) (b : Fin 4) (s : Fin 8192) (w : Fin 4096)

/-- Both spellings of the clamped `gamma`. -/
theorem gcl_eq : gcl m c w = Norm.clampG (gG m c) w := rfl

/-- Multiplying by the inverse of the clamped `gamma` is dividing by it, which is not zero. -/
theorem xA_eq : xA m c R w = Norm.xhat (gY m c) (gYS m c) (gG m c) (gB m c) (bat R) (pos R) w := by
  unfold xA
  rw [aY_at, aYS_at, aCol2_at, aCol1_at, gcl_eq, Ideal.mul_one_div (Norm.clampG_ne _ _)]
  rfl

/-- The gradient at a row and a lane, -/
theorem dA_eq : dA m c R w = Norm.dy (gDY m c) (gDYS m c) (bat R) (pos R) w := by
  unfold dA
  rw [aDY_at, aRow0_at]
  rfl

/-- and the gradient times `gamma`. -/
theorem gA_eq : gA m c R w = Norm.gx (gDY m c) (gDYS m c) (gG m c) (bat R) (pos R) w := by
  unfold gA
  rw [dA_eq, aCol0_at]
  rfl

/-- Row `8192 b + s` is in batch `b` -/
theorem bat_flat : bat (flat b s) = b := Fin.ext (by show (b.val * 8192 + s.val) / 8192 = b.val; omega)
/-- at position `s`. -/
theorem pos_flat : pos (flat b s) = s := Fin.ext (by show (b.val * 8192 + s.val) % 8192 = s.val; omega)

/-- `dx`, where `rstd` is neither negative nor infinite. -/
theorem dxA_eq (h0 : 0 ≤ gR m c (ix2 b s)) (ht : gR m c (ix2 b s) ≠ ⊤) :
    dxA m c (flat b s) w = Norm.dx (gY m c) (gYS m c) (gDY m c) (gDYS m c) (gR m c) (gG m c) (gB m c) b s w := by
  unfold dxA meanA
  simp only [aRow1_at, xA_eq, gA_eq, bat_flat, pos_flat]
  unfold Norm.dx
  rw [Norm.mean_eq, Norm.mean_eq]
  exact Norm.distrib _ _ _ _ _ _ h0 ht

/-- The eight partial sums add up to the sum over all rows. -/
theorem colSum_eq (f : Fin 32768 → Fin 4096 → EReal) : ∑ r : Fin 8, colSum f r w = ∑ b : Fin 4, ∑ s : Fin 8192, f (flat b s) w := by
  unfold colSum
  exact (Norm.sum_by_residue (fun R => f R w) (fun t k j r => by omega)).trans (Norm.sum_by_batch fun R => f R w)

/-- The first result, where `rstd` is neither negative nor infinite, -/
theorem resDX_eq (h0 : 0 ≤ gR m c (ix2 b s)) (ht : gR m c (ix2 b s) ≠ ⊤) : resDX m c (ix3 b s w)
    = Norm.dxOf (gY m c) (gYS m c) (gDY m c) (gDYS m c) (gR m c) (gG m c) (gB m c) (ix3 b s w) :=
  dxA_eq m c b s w h0 ht

/-- the second -/
theorem resDG_eq : resDG m c = Norm.dgammaOf (gY m c) (gYS m c) (gDY m c) (gDYS m c) (gG m c) (gB m c) := by
  funext y
  refine (colSum_eq (y 0) _).trans (Finset.sum_congr rfl fun b _ => Finset.sum_congr rfl fun s _ => ?_)
  refine congrArg₂ (fun p q : EReal => p * q) ((dA_eq m c (flat b s) (y 0)).trans ?_) ((xA_eq m c (flat b s) (y 0)).trans ?_)
  · rw [bat_flat, pos_flat]
  · rw [bat_flat, pos_flat]

/-- and the third. -/
theorem resDB_eq : resDB m c = Norm.dbetaOf (gDY m c) (gDYS m c) := by
  funext y
  refine (colSum_eq (y 0) _).trans (Finset.sum_congr rfl fun b _ => Finset.sum_congr rfl fun s _ => ?_)
  refine (dA_eq m c (flat b s) (y 0)).trans ?_
  rw [bat_flat, pos_flat]

end Cert.KernelIdeal.Value
-- ==== Proof.RefRun.lean ====
/- What the reference's run leaves in its three results, as tensors over its arguments. -/
module

public import proofs.«01_k».proof.Proof.Gen.ReferenceIdeal.Frame
public import Idealize.ShloMosaic.Lib.Pointwise
public import Idealize.ShloMosaic.Lib.Claim

@[expose] public section

set_option maxRecDepth 16384

noncomputable section

namespace Cert.ReferenceIdeal.Value

open Idealize.ShloMosaic Idealize.ShloMosaic.TcCoe Idealize.ShloMosaic.Tactic Idealize.SL.Sem
open Cert.ReferenceIdeal Cert.ReferenceIdeal.Gen

variable (m : (ℓ : Loc nD τ sig) → Buf (Elt Ideal) ℓ) (ρ : Dev nD → PrngReg) (c : Dev nD)

/-! ## The tensors the reference forms -/

/-- The stored input: the codes times the scales of their blocks of 128, -/
abbrev yT (Y : FVec Ideal S4x8192x4096 .f32) (S : FVec Ideal S4x8192x32 .f32) : FVec Ideal S4x8192x4096 .f32 :=
  shapeCast S4x8192x4096 (mulf (shapeCast S4x8192x32x128 Y shapeCasts_S4x8192x4096_S4x8192x32x128)
    (broadcastInDim S4x8192x32x128 ![0, 1, 2, 3] bcast_S4x8192x32x1_S4x8192x32x128_0_1_2_3
      (broadcastInDim S4x8192x32x1 ![0, 1, 2] bcast_S4x8192x32_S4x8192x32x1_0_1_2 S)) : FVec Ideal S4x8192x32x128 .f32) shapeCasts_S4x8192x32x128_S4x8192x4096
/-- a number per row, at every lane, -/
abbrev rowT (S : FVec Ideal S4x8192 .f32) : FVec Ideal S4x8192x4096 .f32 :=
  broadcastInDim S4x8192x4096 ![0, 1, 2] bcast_S4x8192x1_S4x8192x4096_0_1_2 (broadcastInDim S4x8192x1 ![0, 1] bcast_S4x8192_S4x8192x1_0_1 S)
/-- a number per lane, at every row, -/
abbrev colT (S : FVec Ideal S4096 .f32) : FVec Ideal S4x8192x4096 .f32 :=
  broadcastInDim S4x8192x4096 ![0, 1, 2] bcast_S1x1x4096_S4x8192x4096_0_1_2 (broadcastInDim S1x1x4096 ![2] bcast_S4096_S1x1x4096_2 S)
/-- the gradient, -/
abbrev dyT (D : FVec Ideal S4x8192x4096 .f32) (S : FVec Ideal S4x8192 .f32) : FVec Ideal S4x8192x4096 .f32 := mulf D (rowT S)
/-- the clamped `gamma`, -/
abbrev gclT (G : FVec Ideal S4096 .f32) : FVec Ideal S4096 .f32 :=
  select (cmpf .oge G (broadcastInDim S4096 ![] bcast_S_S4096 (constant S_ .f32 0x00000000#32)))
    (maximumf G (broadcastInDim S4096 ![] bcast_S_S4096 (constant S_ .f32 0x3C23D70A#32)))
    (minimumf G (broadcastInDim S4096 ![] bcast_S_S4096 (constant S_ .f32 0xBC23D70A#32)))
/-- the normalized input, -/
abbrev xT (y : FVec Ideal S4x8192x4096 .f32) (B Gc : FVec Ideal S4096 .f32) : FVec Ideal S4x8192x4096 .f32 := Host.divf (subf y (colT B)) (colT Gc)
/-- the mean of each row, at every lane, -/
abbrev meanT (f : FVec Ideal S4x8192x4096 .f32) : FVec Ideal S4x8192x4096 .f32 :=
  broadcastInDim S4x8192x4096 ![0, 1, 2] bcast_S4x8192x1_S4x8192x4096_0_1_2
    (Host.divf (broadcastInDim S4x8192x1 ![0, 1] bcast_S4x8192_S4x8192x1_0_1
        (Host.reduceAdd f (constant S_ .f32 0x00000000#32) reducesTo_S4x8192x4096_S4x8192_d2 h_S_ : FVec Ideal S4x8192 .f32))
      (broadcastInDim S4x8192x1 ![] bcast_S_S4x8192x1 (constant S_ .f32 0x45800000#32)) : FVec Ideal S4x8192x1 .f32)
/-- `dx`, -/
abbrev dxT (g x : FVec Ideal S4x8192x4096 .f32) (R : FVec Ideal S4x8192 .f32) : FVec Ideal S4x8192x4096 .bf16 :=
  truncf .bf16 (mulf (rowT R) (subf (subf g (meanT g)) (mulf x (meanT (mulf g x)))) : FVec Ideal S4x8192x4096 .f32) bitsLt_bf16_f32
/-- and a sum over all the rows. -/
abbrev sumT (f : FVec Ideal S4x8192x4096 .f32) : FVec Ideal S4096 .f32 :=
  Host.reduceAdd f (constant S_ .f32 0x00000000#32) reducesTo_S4x8192x4096_S4096_d0_1 h_S_

/-! ## The host lines, stretch by stretch, over any contents `σ` -/

variable (σ : Valuation τ sig (Elt Ideal))

/-- The last stretch leaves `dx`, -/
theorem last_dx : (StableHlo.after hostOps1_2 σ (Proc.devRef .tc main_v42) : FVec Ideal S4x8192x4096 .bf16)
    = dxT (mulf (show FVec Ideal S4x8192x4096 .f32 from σ (Proc.devRef .tc main_v8)) (colT (σ (Proc.devRef .tc main_arg5))))
        (xT (σ (Proc.devRef .tc main_v5)) (σ (Proc.devRef .tc main_arg6)) (σ (Proc.devRef .tc main_v15))) (σ (Proc.devRef .tc main_arg4)) := by
  simp only [hostOps1_2]
  entry_read; rfl

/-- `dgamma` -/
theorem last_dgamma : (StableHlo.after hostOps1_2 σ (Proc.devRef .tc main_v44) : FVec Ideal S4096 .f32)
    = sumT (mulf (show FVec Ideal S4x8192x4096 .f32 from σ (Proc.devRef .tc main_v8))
        (xT (σ (Proc.devRef .tc main_v5)) (σ (Proc.devRef .tc main_arg6)) (σ (Proc.devRef .tc main_v15)))) := by
  simp only [hostOps1_2]
  entry_read; rfl

/-- and `dbeta`. -/
theorem last_dbeta : (StableHlo.after hostOps1_2 σ (Proc.devRef .tc main_v45) : FVec Ideal S4096 .f32)
    = sumT (show FVec Ideal S4x8192x4096 .f32 from σ (Proc.devRef .tc main_v8)) := by
  simp only [hostOps1_2]
  entry_read; rfl

/-- The middle stretch picks the clamped `gamma`. -/
theorem mid_gcl : (StableHlo.after hostOps1_1 σ (Proc.devRef .tc main_v15) : FVec Ideal S4096 .f32)
    = select (σ (Proc.devRef .tc main_v10)) (show FVec Ideal S4096 .f32 from σ (Proc.devRef .tc main_v12)) (σ (Proc.devRef .tc main_v14)) := by
  simp only [hostOps1_1]
  entry_read; rfl

/-- The middle stretch writes nothing else. -/
theorem mid_keeps (b : Ref sig .tc) (hb : b ≠ main_v15) : StableHlo.after hostOps1_1 σ (Proc.devRef .tc b) = σ (Proc.devRef .tc b) :=
  StableHlo.after_of_forall_not_mem (b := Proc.devRef .tc b) _ _ (List.forall_iff_forall_mem.mp (by
    simp only [hostOps1_1, List.Forall, StableHlo.ternary_writes, Finset.mem_singleton]
    exact StableHlo.devRef_ne_of_ne hb))

/-- The first stretch forms the stored input -/
theorem first_y : (StableHlo.after hostOps1 σ (Proc.devRef .tc main_v5) : FVec Ideal S4x8192x4096 .f32)
    = yT (σ (Proc.devRef .tc main_v0_0)) (σ (Proc.devRef .tc main_arg1)) := by
  simp only [hostOps1]
  entry_read; rfl

/-- and the gradient, -/
theorem first_dy : (StableHlo.after hostOps1 σ (Proc.devRef .tc main_v8) : FVec Ideal S4x8192x4096 .f32)
    = dyT (σ (Proc.devRef .tc main_v0_1)) (σ (Proc.devRef .tc main_arg3)) := by
  simp only [hostOps1]
  entry_read; rfl

/-- keeps `rstd`, -/
theorem first_arg4 : StableHlo.after hostOps1 σ (Proc.devRef .tc main_arg4) = σ (Proc.devRef .tc main_arg4) := by
  simp only [hostOps1]
  entry_read; rfl
/-- `gamma` -/
theorem first_arg5 : StableHlo.after hostOps1 σ (Proc.devRef .tc main_arg5) = σ (Proc.devRef .tc main_arg5) := by
  simp only [hostOps1]
  entry_read; rfl
/-- and `beta`, -/
theorem first_arg6 : StableHlo.after hostOps1 σ (Proc.devRef .tc main_arg6) = σ (Proc.devRef .tc main_arg6) := by
  simp only [hostOps1]
  entry_read; rfl

/-- and forms both candidates for the clamped `gamma` with the test between them. -/
theorem first_gcl : select (StableHlo.after hostOps1 σ (Proc.devRef .tc main_v10))
      (show FVec Ideal S4096 .f32 from StableHlo.after hostOps1 σ (Proc.devRef .tc main_v12)) (StableHlo.after hostOps1 σ (Proc.devRef .tc main_v14))
    = gclT (σ (Proc.devRef .tc main_arg5)) := by
  have h10 : (StableHlo.after hostOps1 σ (Proc.devRef .tc main_v10) : IVec S4096 1)
      = cmpf .oge (show FVec Ideal S4096 .f32 from σ (Proc.devRef .tc main_arg5)) (broadcastInDim S4096 ![] bcast_S_S4096 (constant S_ .f32 0x00000000#32)) := by
    simp only [hostOps1]; (entry_read; rfl)
  have h12 : (StableHlo.after hostOps1 σ (Proc.devRef .tc main_v12) : FVec Ideal S4096 .f32)
      = maximumf (show FVec Ideal S4096 .f32 from σ (Proc.devRef .tc main_arg5)) (broadcastInDim S4096 ![] bcast_S_S4096 (constant S_ .f32 0x3C23D70A#32)) := by
    simp only [hostOps1]; (entry_read; rfl)
  have h14 : (StableHlo.after hostOps1 σ (Proc.devRef .tc main_v14) : FVec Ideal S4096 .f32)
      = minimumf (show FVec Ideal S4096 .f32 from σ (Proc.devRef .tc main_arg5)) (broadcastInDim S4096 ![] bcast_S_S4096 (constant S_ .f32 0xBC23D70A#32)) := by
    simp only [hostOps1]; (entry_read; rfl)
  unfold gclT
  rw [← h10, ← h12, ← h14]

/-- The three stretches together. -/
theorem all_dx : (StableHlo.after (hostOps1 ++ (hostOps1_1 ++ hostOps1_2)) σ (Proc.devRef .tc main_v42) : FVec Ideal S4x8192x4096 .bf16)
    = dxT (mulf (dyT (σ (Proc.devRef .tc main_v0_1)) (σ (Proc.devRef .tc main_arg3))) (colT (σ (Proc.devRef .tc main_arg5))))
        (xT (yT (σ (Proc.devRef .tc main_v0_0)) (σ (Proc.devRef .tc main_arg1))) (σ (Proc.devRef .tc main_arg6)) (gclT (σ (Proc.devRef .tc main_arg5))))
        (σ (Proc.devRef .tc main_arg4)) := by
  rw [StableHlo.after_append, StableHlo.after_append, last_dx, mid_gcl, mid_keeps _ main_v8 (by decide), mid_keeps _ main_arg5 (by decide),
    mid_keeps _ main_v5 (by decide), mid_keeps _ main_arg6 (by decide), mid_keeps _ main_arg4 (by decide),
    first_gcl, first_y, first_dy, first_arg4, first_arg5, first_arg6]

/-- The same for `dgamma` -/
theorem all_dgamma : (StableHlo.after (hostOps1 ++ (hostOps1_1 ++ hostOps1_2)) σ (Proc.devRef .tc main_v44) : FVec Ideal S4096 .f32)
    = sumT (mulf (dyT (σ (Proc.devRef .tc main_v0_1)) (σ (Proc.devRef .tc main_arg3)))
        (xT (yT (σ (Proc.devRef .tc main_v0_0)) (σ (Proc.devRef .tc main_arg1))) (σ (Proc.devRef .tc main_arg6)) (gclT (σ (Proc.devRef .tc main_arg5))))) := by
  rw [StableHlo.after_append, StableHlo.after_append, last_dgamma, mid_gcl, mid_keeps _ main_v8 (by decide),
    mid_keeps _ main_v5 (by decide), mid_keeps _ main_arg6 (by decide), first_gcl, first_y, first_dy, first_arg6]

/-- and for `dbeta`. -/
theorem all_dbeta : (StableHlo.after (hostOps1 ++ (hostOps1_1 ++ hostOps1_2)) σ (Proc.devRef .tc main_v45) : FVec Ideal S4096 .f32)
    = sumT (dyT (σ (Proc.devRef .tc main_v0_1)) (σ (Proc.devRef .tc main_arg3))) := by
  rw [StableHlo.after_append, StableHlo.after_append, last_dbeta, mid_keeps _ main_v8 (by decide), first_dy]

end Cert.ReferenceIdeal.Value
-- ==== Proof.RefValue.lean ====
/- The reference's three results in the entries of its arguments. -/
module

public import proofs.«01_k».proof.Proof.RefRun
public import proofs.«01_k».proof.Proof.Math
public import Idealize.ShloMosaic.Lib.Pipeline.ValueKit

@[expose] public section

set_option maxRecDepth 16384

noncomputable section

namespace Cert.ReferenceIdeal.Value

open Idealize.ShloMosaic Idealize.ShloMosaic.TcCoe Idealize.ShloMosaic.Tactic Idealize.SL.Sem
open Cert.ReferenceIdeal Cert.ReferenceIdeal.Gen

variable (m : (ℓ : Loc nD τ sig) → Buf (Elt Ideal) ℓ) (ρ : Dev nD → PrngReg) (c : Dev nD)

/-! ## The region: both code arrays, cast -/

/-- Both input blocks are the whole arrays. -/
theorem idx : ∀ t : Fin cfg0.N, win0_0.index t = ![0, 0, 0] ∧ win0_1.index t = ![0, 0, 0] := (by decide +kernel : ∀ t : Fin grid0.N, _)

/-- The first output holds the first argument's codes, -/
theorem final_y : (dats m 0 c).arrAt 2 (cfgs 0).N = (fun y => m ((c.tc : Thread nD τ).loc main_arg0) y) := by
  refine (dats m 0 c).arrAt_eq_of_after_last 2 t0_0 (by decide +kernel) _ fun j => ?_
  blk_simp
  rw [after0_2]
  frame_out
  pointwise [k0_pay1]
  blk_point [iblk, V, V0, idx t0_0]

/-- and the second the third argument's. -/
theorem final_dy : (dats m 0 c).arrAt 3 (cfgs 0).N = (fun y => m ((c.tc : Thread nD τ).loc main_arg2) y) := by
  refine (dats m 0 c).arrAt_eq_of_after_last 3 t0_0 (by decide +kernel) _ fun j => ?_
  blk_simp
  rw [after0_3]
  frame_out
  pointwise [k0_pay2]
  blk_point [iblk, V, V0, idx t0_0]

/-- What every array holds when the region has ended, -/
abbrev endV : Valuation τ sig (Elt Ideal) := Pipeline.withArrays (cfgs 0).spec c (V0 m c) fun w => (dats m 0 c).arrAt w (cfgs 0).N

/-- No two windows share an array. -/
theorem inj : Function.Injective (Pipeline.arrRef spec0) := by decide

/-- the input codes in the first output, -/
theorem end_y : endV m c (Proc.devRef .tc main_v0_0) = (fun y => m ((c.tc : Thread nD τ).loc main_arg0) y) :=
  (Pipeline.withArrays_arr (cfgs 0).spec inj c (V0 m c) _ 2).trans (final_y m c)
/-- the gradient codes in the second, -/
theorem end_dy : endV m c (Proc.devRef .tc main_v0_1) = (fun y => m ((c.tc : Thread nD τ).loc main_arg2) y) :=
  (Pipeline.withArrays_arr (cfgs 0).spec inj c (V0 m c) _ 3).trans (final_dy m c)
/-- and every other array as launched. -/
theorem end_arg (b : Ref sig .tc) (hb : ∀ w, Pipeline.arrRef spec0 w ≠ b) : endV m c (Proc.devRef .tc b) = V0 m c (Proc.devRef .tc b) :=
  Pipeline.withArrays_of_ne _ c (V0 m c) _ b hb

/-! ## The tensors at an index -/

/-- A sum over the first two of three axes is the double sum over them. -/
theorem reduce_rows (h : (⟨3, ![4, 8192, 4096]⟩ : Shape).ReducesTo [0, 1] ⟨1, ![4096]⟩)
    (v : (⟨3, ![4, 8192, 4096]⟩ : Shape).Idx → EReal) (init : EReal) (w : Fin 4096) :
    Ideal.hostReduceAdd h v init (ix1 w) = init + ∑ b : Fin 4, ∑ s : Fin 8192, v (ix3 b s w) := by
  have hd : ∀ i : (⟨3, ![4, 8192, 4096]⟩ : Shape).Idx, h.drop i = ix1 w ↔ (i 2).val = w.val := fun i => by
    simp [funext_iff, Fin.ext_iff, Fin.forall_fin_one, h.drop_apply_val_of_eq i 0 2]
  unfold Ideal.hostReduceAdd
  rw [← Fintype.sum_prod_type']
  refine congrArg (init + ·) (Finset.sum_nbij' (fun i => ((i 0 : Fin 4), (i 1 : Fin 8192))) (fun p => ix3 p.1 p.2 w) ?_ ?_ ?_ ?_ ?_)
  · intro i _; exact Finset.mem_univ _
  · intro p _; exact Finset.mem_filter.mpr ⟨Finset.mem_univ _, (hd _).mpr rfl⟩
  · intro i hi
    have e : (i 2 : Fin 4096) = w := Fin.ext ((hd i).mp (Finset.mem_filter.mp hi).2)
    exact (congrArg (ix3 (i 0 : Fin 4) (i 1 : Fin 8192)) e.symm).trans (ix3_eta i)
  · intro p _; rfl
  · intro i hi
    have e : (i 2 : Fin 4096) = w := Fin.ext ((hd i).mp (Finset.mem_filter.mp hi).2)
    exact congrArg v ((ix3_eta i).symm.trans (congrArg (ix3 (i 0 : Fin 4) (i 1 : Fin 8192)) e))

section
variable (Y D g x : FVec Ideal S4x8192x4096 .f32) (S : FVec Ideal S4x8192x32 .f32) (R : FVec Ideal S4x8192 .f32) (G B : FVec Ideal S4096 .f32)
variable (b : Fin 4) (s : Fin 8192) (w : Fin 4096)

/-- The stored input, -/
theorem yT_at : yT Y S (ix3 b s w) = Y (ix3 b s w) * S (ix3 b s (Norm.blkOf w)) := by
  pointwise
  blk_point [Norm.blkOf]

/-- a number per row, -/
theorem rowT_at : rowT R (ix3 b s w) = R (ix2 b s) := by pointwise

/-- a number per lane, -/
theorem colT_at : colT G (ix3 b s w) = G (ix1 w) := by pointwise

/-- the clamped `gamma`, -/
theorem gclT_at : gclT G (ix1 w) = Norm.clampG G w := by
  unfold Norm.clampG
  pointwise

/-- the mean of a row, -/
theorem meanT_at : meanT g (ix3 b s w) = Norm.mean fun w => g (ix3 b s w) := by
  unfold Norm.mean
  pointwise

/-- a sum over all rows, -/
theorem sumT_at : sumT g (ix1 w) = ∑ b : Fin 4, ∑ s : Fin 8192, g (ix3 b s w) := by
  refine (reduce_rows reducesTo_S4x8192x4096_S4096_d0_1 g _ w).trans ?_
  pointwise

variable (C : FVec Ideal S4x8192x4096 .fp8e4m3) (E : FVec Ideal S4x8192x4096 .fp8e5m2) (DS : FVec Ideal S4x8192 .f32)

/-- the normalized input, -/
theorem xT_at : xT (yT (fun y => C y) S) B (gclT G) (ix3 b s w) = Norm.xhat C S G B b s w := by
  have h : xT (yT (fun y => C y) S) B (gclT G) (ix3 b s w)
      = Ideal.div (yT (fun y => C y) S (ix3 b s w) - colT B (ix3 b s w)) (colT (gclT G) (ix3 b s w)) := rfl
  rw [h, yT_at, colT_at, colT_at, gclT_at]
  rfl

/-- the gradient, -/
theorem dyT_at : dyT (fun y => E y) DS (ix3 b s w) = Norm.dy E DS b s w := by
  have h : dyT (fun y => E y) DS (ix3 b s w) = E (ix3 b s w) * rowT DS (ix3 b s w) := rfl
  rw [h, rowT_at]
  rfl

/-- the gradient times `gamma` -/
theorem gT_at : (mulf (dyT (fun y => E y) DS) (colT G) : FVec Ideal S4x8192x4096 .f32) (ix3 b s w) = Norm.gx E DS G b s w := by
  have h : (mulf (dyT (fun y => E y) DS) (colT G) : FVec Ideal S4x8192x4096 .f32) (ix3 b s w)
      = dyT (fun y => E y) DS (ix3 b s w) * colT G (ix3 b s w) := rfl
  rw [h, dyT_at, colT_at]
  rfl

/-- and `dx`, at an index. -/
theorem dxT_at : dxT g x R (ix3 b s w) = R (ix2 b s) * ((g (ix3 b s w) - Norm.mean fun w => g (ix3 b s w))
    - x (ix3 b s w) * Norm.mean fun w => g (ix3 b s w) * x (ix3 b s w)) := by
  have h : dxT g x R (ix3 b s w) = rowT R (ix3 b s w) * ((g (ix3 b s w) - meanT g (ix3 b s w)) - x (ix3 b s w) * meanT (mulf g x) (ix3 b s w)) := rfl
  rw [h, rowT_at, meanT_at, meanT_at]
  rfl

/-- `dx` from what its two tensors hold along the row. -/
theorem dxT_of {g x : FVec Ideal S4x8192x4096 .f32} {R : FVec Ideal S4x8192 .f32} {b : Fin 4} {s : Fin 8192} {w : Fin 4096} {g' x' : Fin 4096 → EReal}
    (hg : ∀ w, g (ix3 b s w) = g' w) (hx : ∀ w, x (ix3 b s w) = x' w) :
    dxT g x R (ix3 b s w) = R (ix2 b s) * ((g' w - Norm.mean g') - x' w * Norm.mean fun w => g' w * x' w) := by
  rw [dxT_at]
  simp only [hg, hx]
end

/-! ## The results -/

/-- `dx`, -/
theorem res_dx : Pipeline.afterTail₀ cfgs (dats m) 0 (V0 m) [hostOps1, hostOps1_1, hostOps1_2] c main_v42
    = Norm.dxOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  rw [show [hostOps1 (F := Ideal), hostOps1_1, hostOps1_2].flatten = hostOps1 ++ (hostOps1_1 ++ hostOps1_2) by
    rw [List.flatten_cons, List.flatten_cons, List.flatten_cons, List.flatten_nil, List.append_nil]]
  refine (all_dx (endV m c)).trans ?_
  rw [end_y, end_dy, end_arg m c main_arg1 (by decide), end_arg m c main_arg3 (by decide), end_arg m c main_arg4 (by decide),
    end_arg m c main_arg5 (by decide), end_arg m c main_arg6 (by decide)]
  funext y
  idx_vars y
  exact dxT_of (fun w => gT_at ..) (fun w => xT_at ..)

/-- `dgamma`, -/
theorem res_dgamma : Pipeline.afterTail₀ cfgs (dats m) 0 (V0 m) [hostOps1, hostOps1_1, hostOps1_2] c main_v44
    = Norm.dgammaOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5)) (m ((c.tc : Thread nD τ).loc main_arg6)) := by
  unfold Pipeline.afterTail₀
  rw [show [hostOps1 (F := Ideal), hostOps1_1, hostOps1_2].flatten = hostOps1 ++ (hostOps1_1 ++ hostOps1_2) by
    rw [List.flatten_cons, List.flatten_cons, List.flatten_cons, List.flatten_nil, List.append_nil]]
  refine (all_dgamma (endV m c)).trans ?_
  rw [end_y, end_dy, end_arg m c main_arg1 (by decide), end_arg m c main_arg3 (by decide),
    end_arg m c main_arg5 (by decide), end_arg m c main_arg6 (by decide)]
  funext y
  idx_vars y
  rw [sumT_at]
  refine Finset.sum_congr rfl fun b _ => Finset.sum_congr rfl fun s _ => ?_
  exact congrArg₂ (fun p q : EReal => p * q) (dyT_at ..) (xT_at ..)

/-- and `dbeta`. -/
theorem res_dbeta : Pipeline.afterTail₀ cfgs (dats m) 0 (V0 m) [hostOps1, hostOps1_1, hostOps1_2] c main_v45
    = Norm.dbetaOf (m ((c.tc : Thread nD τ).loc main_arg2)) (m ((c.tc : Thread nD τ).loc main_arg3)) := by
  unfold Pipeline.afterTail₀
  rw [show [hostOps1 (F := Ideal), hostOps1_1, hostOps1_2].flatten = hostOps1 ++ (hostOps1_1 ++ hostOps1_2) by
    rw [List.flatten_cons, List.flatten_cons, List.flatten_cons, List.flatten_nil, List.append_nil]]
  refine (all_dbeta (endV m c)).trans ?_
  rw [end_dy, end_arg m c main_arg3 (by decide)]
  funext y
  idx_vars y
  rw [sumT_at]
  exact Finset.sum_congr rfl fun b _ => Finset.sum_congr rfl fun s _ => dyT_at ..

/-- Every run of the reference ends with the backward pass's values in its three results. -/
theorem run_values : θ_run defs (onTc (τ := τ) (main (F := Ideal))) ⟨m, fun _ => 0, ρ⟩ (fun r => ∀ c : Dev nD,
      r.2.mem ((c.tc : Thread nD τ).loc main_v42)
        = Norm.dxOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v44)
        = Norm.dgammaOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg5)) (m ((c.tc : Thread nD τ).loc main_arg6))
      ∧ r.2.mem ((c.tc : Thread nD τ).loc main_v45)
        = Norm.dbetaOf (m ((c.tc : Thread nD τ).loc main_arg2)) (m ((c.tc : Thread nD τ).loc main_arg3))) :=
  (θ_run defs _ _).mono (fun r h c =>
    ⟨((h c).2 main_v42 (Pipeline.mem_restRefs_of main_v42 (by decide) (by decide))).trans (res_dx m c),
     ((h c).2 main_v44 (Pipeline.mem_restRefs_of main_v44 (by decide) (by decide))).trans (res_dgamma m c),
     ((h c).2 main_v45 (Pipeline.mem_restRefs_of main_v45 (by decide) (by decide))).trans (res_dbeta m c)⟩) (run_main m ρ)

end Cert.ReferenceIdeal.Value
-- ==== Proof.Mask.lean ====
/- The mask of the value claim: the rows of `dx` whose `rstd` is neither negative nor infinite. -/
module

public import proofs.«01_k».proof.On_rstd_in_range
public import Idealize.ShloMosaic.Lib.Pointwise

@[expose] public section

set_option maxRecDepth 16384

noncomputable section

namespace Cert.On_rstd_in_range

open Idealize.ShloMosaic Idealize.ShloMosaic.Tactic

/-- The mask's broadcasts fit their shapes. -/
theorem facts : Facts := ⟨by decide, by decide, by decide, by decide⟩

/-- The pattern of infinity. -/
theorem inf_eq : Ideal.ofBits .f32 0x7F800000#32 = ⊤ := by simp [Ideal.ofBits, Ideal.ieee]

/-- Where the mask of `dx` is set, the row's `rstd` is at least zero and below infinity. -/
theorem rstd_of_mask [Facts] (Y : FVec Ideal S4x8192x4096 .fp8e4m3) (YS : FVec Ideal S4x8192x32 .f32) (D : FVec Ideal S4x8192x4096 .fp8e5m2)
    (DS R : FVec Ideal S4x8192 .f32) (G B : FVec Ideal S4096 .f32) (b : Fin 4) (s : Fin 8192) (w : Fin 4096)
    (h : (fn Y YS D DS R G B).1 (ix3 b s w) = 1#1) : 0 ≤ R (ix2 b s) ∧ R (ix2 b s) ≠ ⊤ := by
  revert h
  unfold fn
  dsimp only
  pointwise
  rw [inf_eq]
  intro h
  by_cases p : 0 ≤ R (ix2 b s) <;> by_cases q : R (ix2 b s) < ⊤
  · exact ⟨p, q.ne⟩
  all_goals simp [p, q, IntOp.andi] at h

end Cert.On_rstd_in_range
-- ==== Proof.lean ====
/- The claim: the kernel and its reference run without interference and leave their arguments as they were, reading the kernel
   over extended reals changes nothing but its arithmetic, and over extended reals the kernel's three results are the
   reference's: `dgamma` and `dbeta` everywhere, `dx` in every row whose `rstd` is neither negative nor infinite.
   The two value theorems are `Cert.KernelIdeal.Value.run_values` with `resDX_eq`, `resDG_eq`, `resDB_eq` (the kernel) and
   `Cert.ReferenceIdeal.Value.run_values` (the reference); the values are `Cert.Norm.dxOf`, `dgammaOf`, `dbetaOf`. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Frame
public import proofs.«01_k».proof.Proof.Equation
public import proofs.«01_k».proof.Proof.RefValue
public import proofs.«01_k».proof.Proof.Mask
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- Over extended reals the kernel and the reference end with equal results. -/
theorem values [Cert.On_rstd_in_range.Facts] : Cert.algebraic_KernelIdeal_ReferenceIdeal_on_rstd_in_range := by
  intro m g m' g' _ hargs
  refine ⟨fun c => Norm.dxOf (KernelIdeal.Value.gY m c) (KernelIdeal.Value.gYS m c) (KernelIdeal.Value.gDY m c) (KernelIdeal.Value.gDYS m c)
      (KernelIdeal.Value.gR m c) (KernelIdeal.Value.gG m c) (KernelIdeal.Value.gB m c),
    fun c => Norm.dgammaOf (KernelIdeal.Value.gY m c) (KernelIdeal.Value.gYS m c) (KernelIdeal.Value.gDY m c) (KernelIdeal.Value.gDYS m c)
      (KernelIdeal.Value.gG m c) (KernelIdeal.Value.gB m c),
    fun c => Norm.dbetaOf (KernelIdeal.Value.gDY m c) (KernelIdeal.Value.gDYS m c), ?_, ?_⟩
  · refine (θ_run _ _ _).mono (fun r h c => ?_) (θ_run_and (KernelIdeal.Value.run_values m g) (KernelIdeal.Value.unchanged m g))
    obtain ⟨hx, hg, hb⟩ := h.1 c
    refine ⟨fun i hi => ?_, fun i _ => ?_, fun i _ => ?_, h.2 c⟩
    · refine (congrFun hx i).trans ?_
      revert hi
      idx_vars i
      intro hi
      obtain ⟨h0, ht⟩ := On_rstd_in_range.rstd_of_mask _ _ _ _ _ _ _ _ _ _ hi
      exact KernelIdeal.Value.resDX_eq m c _ _ _ h0 ht
    · exact congrFun (hg.trans (KernelIdeal.Value.resDG_eq m c)) i
    · exact congrFun (hb.trans (KernelIdeal.Value.resDB_eq m c)) i
  · refine (θ_run _ _ _).mono (fun r h c => ?_) (θ_run_and (ReferenceIdeal.Value.run_values m' g') ((θ_run _ _ _).mono (fun r h => h.1) (ReferenceIdeal.Gen.frame m' g')))
    obtain ⟨hx, hg, hb⟩ := h.1 c
    obtain ⟨e0, e1, e2, e3, e4, e5, e6⟩ := hargs c
    refine ⟨fun i _ => ?_, fun i _ => ?_, fun i _ => ?_, h.2 c⟩
    · rw [e0, e1, e2, e3, e4, e5, e6] at hx
      exact congrFun hx i
    · rw [e0, e1, e2, e3, e5, e6] at hg
      exact congrFun hg i
    · rw [e2, e3] at hb
      exact congrFun hb i

/-- The claim. -/
theorem claim : Cert.Claim := ⟨Cert.Kernel.Gen.facts, Cert.KernelIdeal.Gen.facts, Cert.ReferenceIdeal.Gen.facts, Cert.On_rstd_in_range.facts, by
  exact ⟨fun m ρ _ => Cert.Kernel.Value.frame m ρ, fun m ρ _ => Cert.KernelIdeal.Value.frame m ρ,
    fun m ρ _ => Cert.ReferenceIdeal.Gen.frame m ρ, trivial,
    @values Cert.On_rstd_in_range.facts⟩⟩

end Cert.Proof

end
